-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x2816 : Shape := ⟨3, ![1, 1024, 2816]⟩
abbrev S2816x8 : Shape := ⟨2, ![2816, 8]⟩
abbrev S8x2816x5632 : Shape := ⟨3, ![8, 2816, 5632]⟩
abbrev S8x5632 : Shape := ⟨2, ![8, 5632]⟩
abbrev S8x2816x2816 : Shape := ⟨3, ![8, 2816, 2816]⟩
abbrev S8x2816 : Shape := ⟨2, ![8, 2816]⟩
abbrev S1024x2816 : Shape := ⟨2, ![1024, 2816]⟩
abbrev S1024x1 : Shape := ⟨2, ![1024, 1]⟩
abbrev S1024x8 : Shape := ⟨2, ![1024, 8]⟩
abbrev S1024 : Shape := ⟨1, ![1024]⟩
abbrev S1024x253 : Shape := ⟨2, ![1024, 253]⟩
abbrev S8x1x5632 : Shape := ⟨3, ![8, 1, 5632]⟩
abbrev S8x1x2816 : Shape := ⟨3, ![8, 1, 2816]⟩
abbrev S1x2816x256 : Shape := ⟨3, ![1, 2816, 256]⟩
abbrev S1x1x256 : Shape := ⟨3, ![1, 1, 256]⟩
abbrev S2816x256 : Shape := ⟨2, ![2816, 256]⟩
abbrev S1024x256 : Shape := ⟨2, ![1024, 256]⟩
abbrev S1x256 : Shape := ⟨2, ![1, 256]⟩

abbrev nBuf : Space → Nat
  | .hbm => 15
  | .vmem => 25
  | .smem => 0
  | _ => 0

abbrev bufTy : (tb : Table) → Fin (tcTables nBuf tb) → BufTy
  | .hbm, ⟨0, _⟩ => ⟨S1x1024x2816, .bf16⟩
  | .hbm, ⟨1, _⟩ => ⟨S2816x8, .f32⟩
  | .hbm, ⟨2, _⟩ => ⟨S8x2816x5632, .fp8e4m3⟩
  | .hbm, ⟨3, _⟩ => ⟨S8x5632, .f32⟩
  | .hbm, ⟨4, _⟩ => ⟨S8x2816x2816, .fp8e4m3⟩
  | .hbm, ⟨5, _⟩ => ⟨S8x2816, .f32⟩
  | .hbm, ⟨6, _⟩ => ⟨S1024x2816, .bf16⟩
  | .hbm, ⟨7, _⟩ => ⟨S1024x2816, .fp8e4m3⟩
  | .hbm, ⟨8, _⟩ => ⟨S1024x1, .f32⟩
  | .hbm, ⟨9, _⟩ => ⟨S1024x8, .f32⟩
  | .hbm, ⟨10, _⟩ => ⟨S8x1x5632, .f32⟩
  | .hbm, ⟨11, _⟩ => ⟨S8x1x5632, .f32⟩
  | .hbm, ⟨12, _⟩ => ⟨S8x1x2816, .f32⟩
  | .hbm, ⟨13, _⟩ => ⟨S1024x2816, .bf16⟩
  | .hbm, ⟨14, _⟩ => ⟨S1x1024x2816, .bf16⟩
  | .local _ .vmem, ⟨0, _⟩ => ⟨S1024x2816, .bf16⟩
  | .local _ .vmem, ⟨1, _⟩ => ⟨S2816x8, .f32⟩
  | .local _ .vmem, ⟨2, _⟩ => ⟨S1024x2816, .fp8e4m3⟩
  | .local _ .vmem, ⟨3, _⟩ => ⟨S1024x1, .f32⟩
  | .local _ .vmem, ⟨4, _⟩ => ⟨S1024x8, .f32⟩
  | .local _ .vmem, ⟨5, _⟩ => ⟨S1024x2816, .fp8e4m3⟩
  | .local _ .vmem, ⟨6, _⟩ => ⟨S1024x1, .f32⟩
  | .local _ .vmem, ⟨7, _⟩ => ⟨S1024x8, .f32⟩
  | .local _ .vmem, ⟨8, _⟩ => ⟨S1x2816x256, .fp8e4m3⟩
  | .local _ .vmem, ⟨9, _⟩ => ⟨S1x2816x256, .fp8e4m3⟩
  | .local _ .vmem, ⟨10, _⟩ => ⟨S1x2816x256, .fp8e4m3⟩
  | .local _ .vmem, ⟨11, _⟩ => ⟨S1x2816x256, .fp8e4m3⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1x1x256, .f32⟩
  | .local _ .vmem, ⟨16, _⟩ => ⟨S1x2816x256, .fp8e4m3⟩
  | .local _ .vmem, ⟨17, _⟩ => ⟨S1x2816x256, .fp8e4m3⟩
  | .local _ .vmem, ⟨18, _⟩ => ⟨S1x1x256, .f32⟩
  | .local _ .vmem, ⟨19, _⟩ => ⟨S1x1x256, .f32⟩
  | .local _ .vmem, ⟨20, _⟩ => ⟨S1024x2816, .bf16⟩
  | .local _ .vmem, ⟨21, _⟩ => ⟨S1024x2816, .f32⟩
  | .local _ .vmem, ⟨22, _⟩ => ⟨S1024x2816, .fp8e4m3⟩
  | .local _ .vmem, ⟨23, _⟩ => ⟨S1024x1, .f32⟩
  | .local _ .vmem, ⟨24, _⟩ => ⟨S1024x2816, .f32⟩
  | _, _ => ⟨S1x1024x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc1_scratch3 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20

abbrev nD : Nat := 1
abbrev τ : Topo := Topo.v7x

variable {F : FTy → Type} [FloatOps F]

abbrev grid0 : Pipeline.Grid := .none

abbrev stage0_0 : Fin 1 → Memref sig .tc .vmem S1024x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2816x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2816 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![8, 22], ![false, false]⟩

def k1_cond1 (i : grid1.Coords) : BitVec 1 :=
  let arg1 : BitVec 32 := BitVec.ofNat 32 (i 1).val
  let c11_i32 : BitVec 32 := 11#32
  let v0 : BitVec 1 := Scalar.cmpi .slt arg1 c11_i32
  let v1 : BitVec 32 := Scalar.extui v0
  let c0_i32 : BitVec 32 := 0#32
  let v2 : BitVec 1 := Scalar.cmpi .ne v1 c0_i32
  v2

def k1_mult1 (i : grid1.Coords) : BitVec 32 :=
  let arg1 : BitVec 32 := BitVec.ofNat 32 (i 1).val
  let c256_i32 : BitVec 32 := 256#32
  let v39 : BitVec 32 := Scalar.muli arg1 c256_i32
  v39
def k1_off1 (i : grid1.Coords) : Fin 2 → Nat :=
  let c0_21 : Index := 0#32
  let arg1 : BitVec 32 := BitVec.ofNat 32 (i 1).val
  let c256_i32 : BitVec 32 := 256#32
  let v39 : BitVec 32 := Scalar.muli arg1 c256_i32
  let v40 : BitVec 32 := v39
  let v41 : Index := Scalar.indexCast v40
  ![0, v41.toNat]
def k1_cond3 (i : grid1.Coords) : BitVec 1 :=
  let arg1 : BitVec 32 := BitVec.ofNat 32 (i 1).val
  let c11_i32_2 : BitVec 32 := 11#32
  let v6 : BitVec 1 := Scalar.cmpi .sge arg1 c11_i32_2
  let v7 : BitVec 32 := Scalar.extui v6
  let c0_i32_3 : BitVec 32 := 0#32
  let v8 : BitVec 1 := Scalar.cmpi .ne v7 c0_i32_3
  v8

def k1_mult2 (i : grid1.Coords) : BitVec 32 :=
  let arg1 : BitVec 32 := BitVec.ofNat 32 (i 1).val
  let c11_i32_5 : BitVec 32 := 11#32
  let v14 : BitVec 32 := Scalar.subi arg1 c11_i32_5
  let c256_i32 : BitVec 32 := 256#32
  let v15 : BitVec 32 := Scalar.muli v14 c256_i32
  v15
def k1_off2 (i : grid1.Coords) : Fin 2 → Nat :=
  let c0_16 : Index := 0#32
  let arg1 : BitVec 32 := BitVec.ofNat 32 (i 1).val
  let c11_i32_5 : BitVec 32 := 11#32
  let v14 : BitVec 32 := Scalar.subi arg1 c11_i32_5
  let c256_i32 : BitVec 32 := 256#32
  let v15 : BitVec 32 := Scalar.muli v14 c256_i32
  let v16 : BitVec 32 := v15
  let v29 : Index := Scalar.indexCast v16
  ![0, v29.toNat]
def k1_cond4 (i : grid1.Coords) : BitVec 1 :=
  let arg0 : BitVec 32 := BitVec.ofNat 32 (i 0).val
  let c7_i32 : BitVec 32 := 7#32
  let v9 : BitVec 1 := Scalar.cmpi .eq arg0 c7_i32
  let arg1 : BitVec 32 := BitVec.ofNat 32 (i 1).val
  let c21_i32 : BitVec 32 := 21#32
  let v10 : BitVec 1 := Scalar.cmpi .eq arg1 c21_i32
  let v11 : BitVec 1 := Scalar.andi v9 v10
  let v12 : BitVec 32 := Scalar.extui v11
  let c0_i32_4 : BitVec 32 := 0#32
  let v13 : BitVec 1 := Scalar.cmpi .ne v12 c0_i32_4
  v13

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![arg0.toNat, c0_i32.toNat, v0.toNat]

def cc1_transform_4 (i : grid1.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c11_i32 : BitVec 32 := 11#32
  let v1 : BitVec 32 := Scalar.addi c11_i32 v0
  let c0_i32 : BitVec 32 := 0#32
  let c0_i32_0 : BitVec 32 := 0#32
  ![arg0.toNat, c0_i32.toNat, v1.toNat]

def cc1_transform_5 (i : grid1.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![arg0.toNat, c0_i32.toNat, v0.toNat]

def cc1_transform_6 (i : grid1.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c11_i32 : BitVec 32 := 11#32
  let v1 : BitVec 32 := Scalar.addi c11_i32 v0
  let c0_i32 : BitVec 32 := 0#32
  let c0_i32_0 : BitVec 32 := 0#32
  ![arg0.toNat, c0_i32.toNat, v1.toNat]

def cc1_transform_7 (i : grid1.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc1_transform_8 (i : grid1.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x2816 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2816x256 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2816x256 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x2816x256 .fp8e4m3 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 1 → Memref sig .tc .vmem S1024x2816 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]
-- ==== ReferenceIdeal.lean ====
abbrev S1x1024x2816 : Shape := ⟨3, ![1, 1024, 2816]⟩
abbrev S2816x8 : Shape := ⟨2, ![2816, 8]⟩
abbrev S8x2816x5632 : Shape := ⟨3, ![8, 2816, 5632]⟩
abbrev S8x5632 : Shape := ⟨2, ![8, 5632]⟩
abbrev S8x2816x2816 : Shape := ⟨3, ![8, 2816, 2816]⟩
abbrev S8x2816 : Shape := ⟨2, ![8, 2816]⟩
abbrev S1024x2816 : Shape := ⟨2, ![1024, 2816]⟩
abbrev S1024x8 : Shape := ⟨2, ![1024, 8]⟩
abbrev S1024x4 : Shape := ⟨2, ![1024, 4]⟩
abbrev S_ : Shape := ⟨0, ![]⟩
abbrev S1024 : Shape := ⟨1, ![1024]⟩
abbrev S1024x1 : Shape := ⟨2, ![1024, 1]⟩
abbrev S1024x4x1 : Shape := ⟨3, ![1024, 4, 1]⟩
abbrev S8 : Shape := ⟨1, ![8]⟩
abbrev S1x1x8 : Shape := ⟨3, ![1, 1, 8]⟩
abbrev S1024x4x8 : Shape := ⟨3, ![1024, 4, 8]⟩
abbrev S8x1024 : Shape := ⟨2, ![8, 1024]⟩
abbrev S8x1024x1 : Shape := ⟨3, ![8, 1024, 1]⟩
abbrev S1x1024 : Shape := ⟨2, ![1, 1024]⟩
abbrev S1x1024x1 : Shape := ⟨3, ![1, 1024, 1]⟩
abbrev S1x1024x253 : Shape := ⟨3, ![1, 1024, 253]⟩
abbrev S8x1024x2816 : Shape := ⟨3, ![8, 1024, 2816]⟩
abbrev S8x1024x5632 : Shape := ⟨3, ![8, 1024, 5632]⟩
abbrev S8x1x5632 : Shape := ⟨3, ![8, 1, 5632]⟩
abbrev S8x1024x253 : Shape := ⟨3, ![8, 1024, 253]⟩
abbrev S8x1x2816 : Shape := ⟨3, ![8, 1, 2816]⟩

abbrev nBuf : Space → Nat
  | .hbm => 39
  | .vmem => 7
  | .smem => 0
  | _ => 0

abbrev bufTy : (tb : Table) → Fin (tcTables nBuf tb) → BufTy
  | .hbm, ⟨0, _⟩ => ⟨S1x1024x2816, .bf16⟩
  | .hbm, ⟨1, _⟩ => ⟨S2816x8, .f32⟩
  | .hbm, ⟨2, _⟩ => ⟨S8x2816x5632, .fp8e4m3⟩
  | .hbm, ⟨3, _⟩ => ⟨S8x5632, .f32⟩
  | .hbm, ⟨4, _⟩ => ⟨S8x2816x2816, .fp8e4m3⟩
  | .hbm, ⟨5, _⟩ => ⟨S8x2816, .f32⟩
  | .hbm, ⟨6, _⟩ => ⟨S1024x2816, .bf16⟩
  | .hbm, ⟨7, _⟩ => ⟨S1024x2816, .f32⟩
  | .hbm, ⟨8, _⟩ => ⟨S1024x8, .f32⟩
  | .hbm, ⟨9, _⟩ => ⟨S1024x4, .f32⟩
  | .hbm, ⟨10, _⟩ => ⟨S1024x4, .i32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x4, .f32⟩
  | .hbm, ⟨15, _⟩ => ⟨S1024x4, .f32⟩
  | .hbm, ⟨16, _⟩ => ⟨S1024x4, .f32⟩
  | .hbm, ⟨17, _⟩ => ⟨S1024x4x1, .i32⟩
  | .hbm, ⟨18, _⟩ => ⟨S8, .i32⟩
  | .hbm, ⟨19, _⟩ => ⟨S1x1x8, .i32⟩
  | .hbm, ⟨20, _⟩ => ⟨S1024x4x8, .i32⟩
  | .hbm, ⟨21, _⟩ => ⟨S1024x4x8, .i32⟩
  | .hbm, ⟨22, _⟩ => ⟨S1024x4x8, .i1⟩
  | .hbm, ⟨23, _⟩ => ⟨S1024x4x1, .f32⟩
  | .hbm, ⟨24, _⟩ => ⟨S_, .f32⟩
  | .hbm, ⟨25, _⟩ => ⟨S_, .f32⟩
  | .hbm, ⟨26, _⟩ => ⟨S1024x4x8, .f32⟩
  | .hbm, ⟨27, _⟩ => ⟨S1024x4x8, .f32⟩
  | .hbm, ⟨28, _⟩ => ⟨S1024x4x8, .f32⟩
  | .hbm, ⟨29, _⟩ => ⟨S_, .f32⟩
  | .hbm, ⟨30, _⟩ => ⟨S1024x8, .f32⟩
  | .hbm, ⟨31, _⟩ => ⟨S_, .f32⟩
  | .hbm, ⟨32, _⟩ => ⟨S1024, .f32⟩
  | .hbm, ⟨33, _⟩ => ⟨S1024x1, .f32⟩
  | .hbm, ⟨34, _⟩ => ⟨S1024x8, .f32⟩
  | .hbm, ⟨35, _⟩ => ⟨S1024x8, .f32⟩
  | .hbm, ⟨36, _⟩ => ⟨S8x1024, .f32⟩
  | .hbm, ⟨37, _⟩ => ⟨S8x1024x1, .f32⟩
  | .hbm, ⟨38, _⟩ => ⟨S1x1024x2816, .bf16⟩
  | .local _ .vmem, ⟨0, _⟩ => ⟨S1x1024x2816, .bf16⟩
  | .local _ .vmem, ⟨1, _⟩ => ⟨S8x1024x1, .f32⟩
  | .local _ .vmem, ⟨2, _⟩ => ⟨S8x2816x5632, .fp8e4m3⟩
  | .local _ .vmem, ⟨3, _⟩ => ⟨S8x5632, .f32⟩
  | .local _ .vmem, ⟨4, _⟩ => ⟨S8x2816x2816, .fp8e4m3⟩
  | .local _ .vmem, ⟨5, _⟩ => ⟨S8x2816, .f32⟩
  | .local _ .vmem, ⟨6, _⟩ => ⟨S1x1024x2816, .bf16⟩
  | _, _ => ⟨S1x1024x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2816x5632 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2816x2816 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Router.lean ====
/- The router region of the program at `Ideal`: each window's block at the single grid point, what the body leaves in
   each output's staging buffer, and the body's obligation; then the windows' blocks of the experts region. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # REGION 0 of @main: custom_call 0, `cc0_router` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x2816 := Rect.unit (s := S1024x2816) ![0, 0] S1024x2816.size inb_S1024x2816_S1024x2816_0_0
abbrev r0_1 : Rect S2816x8 := Rect.unit (s := S2816x8) ![0, 0] S2816x8.size inb_S2816x8_S2816x8_0_0
abbrev r0_2 : Rect S1024x8 := Rect.unit (s := S1024x8) ![0, 0] S1024x8.size inb_S1024x8_S1024x8_0_0
abbrev r0_3 : Rect S1024x1 := Rect.unit (s := S1024x1) ![0, 0] S1024x1.size inb_S1024x1_S1024x1_0_0

/-! ## What the body leaves in each output window's buffer -/

/-! ### Values of the body that the stores' payloads, spelt out, would write more than once

    Each is a vector the body binds (often a part call's result), stated over the input windows' blocks and
    numbered on from the skeleton's payload functions (`k0_pay16` …, after `k0_pay15`), so that
    `out0_W` and the values after it name it instead of spelling it out ; the comment after each is the printed function's
    name for the value (a count appended where that name is bound again). -/

def k0_pay16 (x0 : Vec F S1024x2816 .bf16) (x1 : Vec F S2816x8 .f32) : FVec F S1024x2816 .f32 :=
  k0_pay4 (View.ld x0 r0_0) -- `v2`
def k0_pay17 (x0 : Vec F S1024x2816 .bf16) (x1 : Vec F S2816x8 .f32) : FVec F S1024x1 .f32 :=
  k0_pay13 (k0_pay16 x0 x1) -- `v71`
def k0_pay18 (x0 : Vec F S1024x2816 .bf16) (x1 : Vec F S2816x8 .f32) : FVec F S1024x1 .f32 :=
  k0_pay14 (k0_pay16 x0 x1) -- `v73`
def k0_pay19 (x0 : Vec F S1024x2816 .bf16) (x1 : Vec F S2816x8 .f32) : IVec S1024x253 32 :=
  k0_pay15 (k0_pay16 x0 x1) -- `v86`

/-- Window 2's staging buffer after the body, from the input windows' blocks: its 1 store as pieces, LAST
    FIRST (Lib/Pipeline/FrameBody.lean `View.canon`; the payloads are the skeleton's and the values stated above). -/
def out0_2 (x0 : Vec F S1024x2816 .bf16) (x1 : Vec F S2816x8 .f32) : Vec F S1024x2816 .fp8e4m3 :=
  View.canon [⟨r0_0, k0_pay3 (k0_pay16 x0 x1) (k0_pay17 x0 x1) (k0_pay18 x0 x1) (k0_pay19 x0 x1)⟩]

/-- Its stores tile the buffer (checked by evaluation), so they cover it. -/
theorem cover0_2 (p0 : Vec F S1024x2816 .fp8e4m3) (y : S1024x2816.Idx) :
    ∃ pc ∈ ([⟨r0_0, p0⟩] : List (View.Piece (Elt F) S1024x2816 .fp8e4m3)), y ∈ pc.1.set :=
  View.cover_of_tiled [⟨r0_0, p0⟩] S1024x2816.size (by rfl) y

/-- Window 3's staging buffer after the body, from the input windows' blocks: its 1 store as pieces, LAST
    FIRST (Lib/Pipeline/FrameBody.lean `View.canon`; the payloads are the skeleton's and the values stated above). -/
def out0_3 (x0 : Vec F S1024x2816 .bf16) (x1 : Vec F S2816x8 .f32) : Vec F S1024x1 .f32 :=
  View.canon [⟨r0_3, k0_pay2 (k0_pay17 x0 x1) (k0_pay18 x0 x1) (k0_pay19 x0 x1)⟩]

/-- Its stores tile the buffer (checked by evaluation), so they cover it. -/
theorem cover0_3 (p0 : Vec F S1024x1 .f32) (y : S1024x1.Idx) :
    ∃ pc ∈ ([⟨r0_3, p0⟩] : List (View.Piece (Elt F) S1024x1 .f32)), y ∈ pc.1.set :=
  View.cover_of_tiled [⟨r0_3, p0⟩] S1024x1.size (by rfl) y

/-- Window 4's staging buffer after the body, from the input windows' blocks: its 1 store as pieces, LAST
    FIRST (Lib/Pipeline/FrameBody.lean `View.canon`; the payloads are the skeleton's and the values stated above). -/
def out0_4 (x0 : Vec F S1024x2816 .bf16) (x1 : Vec F S2816x8 .f32) : Vec F S1024x8 .f32 :=
  View.canon [⟨r0_2, k0_pay12 (k0_pay5 (View.ld x0 r0_0) (View.ld x1 r0_1)) (iota .tc S1024x8 32 [1] iota_S1024x8_d1_w32) (k0_pay9 (View.ld x0 r0_0) (View.ld x1 r0_1)) (k0_pay10 (View.ld x0 r0_0) (View.ld x1 r0_1)) (k0_pay11 (View.ld x0 r0_0) (View.ld x1 r0_1))⟩]

/-- Its stores tile the buffer (checked by evaluation), so they cover it. -/
theorem cover0_4 (p0 : Vec F S1024x8 .f32) (y : S1024x8.Idx) :
    ∃ pc ∈ ([⟨r0_2, p0⟩] : List (View.Piece (Elt F) S1024x8 .f32)), y ∈ pc.1.set :=
  View.cover_of_tiled [⟨r0_2, p0⟩] S1024x8.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (arg0 : Memref sig .tc .vmem S1024x2816 .bf16) (harg0 : arg0.IsWhole) (arg1 : Memref sig .tc .vmem S2816x8 .f32) (harg1 : arg1.IsWhole) (arg2 : Memref sig .tc .vmem S1024x2816 .fp8e4m3) (harg2 : arg2.IsWhole) (arg3 : Memref sig .tc .vmem S1024x1 .f32) (harg3 : arg3.IsWhole) (arg4 : Memref sig .tc .vmem S1024x8 .f32) (harg4 : arg4.IsWhole)
    (x0 : Vec F S1024x2816 .bf16) (x1 : Vec F S2816x8 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1) ∗ owns (c : Thread nD τ) arg4 fullShare (out0_4 x0 x1)) -∗ K ⟨⟩))
      ⊢ wp frame (wpE (defs₀ (F := F)) Variants.none c none) E (cc0_router arg0 harg0 arg1 harg1 arg2 harg2 arg3 harg3 arg4 harg4) K := by
  simp only [cc0_router_eq_skeleton]; unfold cc0_router_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_experts` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

end Regions

end Cert.Kernel.Gen

end
-- ==== Proof.Kernel.Runs.lean ====
/- The experts region: what the body does to the scratch buffers in each of its four cases (the up stripe, the
   quantisation, the down stripe, the last point). -/
module

public import proofs.«01_k».proof.Proof.Kernel.Router
public import Idealize.ShloMosaic.Lib.VecWindow

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, from the point -/

/-- The point is in an expert's up half. -/
abbrev condU (i : grid1.Coords) : Prop := k1_cond1 i = 1#1
/-- The point quantises the activations. -/
abbrev condQ (i : grid1.Coords) : Prop :=
  (Scalar.cmpi .ne (Scalar.extui (Scalar.cmpi .eq (BitVec.ofNat 32 (i 1).val) 11#32) : BitVec 32) 0#32 : BitVec 1) = 1#1
/-- The point is in an expert's down half. -/
abbrev condD (i : grid1.Coords) : Prop := k1_cond3 i = 1#1
/-- The point is the last one. -/
abbrev condL (i : grid1.Coords) : Prop := k1_cond4 i = 1#1

/-- The expert of a point. -/
theorem coord0 (t : Fin grid1.N) : (grid1.coords t 0).val = t.val / 22 % 8 := Pipeline.Grid.coords_val t 0 (by decide) rfl
/-- The step of a point within its expert. -/
theorem coord1 (t : Fin grid1.N) : (grid1.coords t 1).val = t.val / 1 % 22 := Pipeline.Grid.coords_val t 1 (by decide) rfl

theorem hcondU (t : Fin grid1.N) : condU (grid1.coords t) ↔ t.val % 22 < 11 := by
  have ht : t.val < 176 := Nat.lt_of_lt_of_eq t.isLt N_1
  simp only [condU, k1_cond1, coord1]
  word_cmp
theorem hcondQ (t : Fin grid1.N) : condQ (grid1.coords t) ↔ t.val % 22 = 11 := by
  have ht : t.val < 176 := Nat.lt_of_lt_of_eq t.isLt N_1
  simp only [condQ, coord1]
  word_cmp
theorem hcondD (t : Fin grid1.N) : condD (grid1.coords t) ↔ 11 ≤ t.val % 22 := by
  have ht : t.val < 176 := Nat.lt_of_lt_of_eq t.isLt N_1
  simp only [condD, k1_cond3, coord1]
  word_cmp
theorem hcondL (t : Fin grid1.N) : condL (grid1.coords t) ↔ t.val = 175 := by
  have ht : t.val < 176 := Nat.lt_of_lt_of_eq t.isLt N_1
  simp only [condL, k1_cond4, coord0, coord1]
  word_cmp

/-- In the down half the stripe's offsets are those of the step's column block. -/
theorem off2_eq : ∀ i : grid1.Coords, condD i → k1_off2 i = ![0, 256 * (i 1).val - 2816] := by decide +kernel

/-- A load through a unit-stride rectangle reads a window of what the view reads. -/
theorem readAt_window {κ : Kind} {sp : Space} {s : Shape} {e : EltTy} (v : View sig κ sp s e) (f : v.ty.Contents (Elt F))
    {off size : Fin s.rank → ℕ} (inb : ∀ a, off a + size a ≤ s.size a) :
    v.readAt (Elt F) (Rect.unit off size inb).toLoadRect f = VecWindow.window (v.read (Elt F) f) off size inb := rfl

/-- A window of a vector's own sizes is the vector. -/
theorem window_full {s : Shape} {α : Type} (x : s.Idx → α) {off : Fin s.rank → ℕ} (inb : ∀ a, off a + s.size a ≤ s.size a) :
    VecWindow.window x off s.size inb = x := by
  funext y
  exact congrArg x (funext fun a => Fin.ext (by
    show off a + 1 * (y a).val = (y a).val
    have := inb a; omega))
theorem window_S1024x2816 {α : Type} (x : S1024x2816.Idx → α) (inb) : VecWindow.window x ![0, 0] ![1024, 2816] inb = x := window_full x inb
theorem window_S1024x8 {α : Type} (x : S1024x8.Idx → α) (inb) : VecWindow.window x ![0, 0] ![1024, 8] inb = x := window_full x inb
theorem window_S1024x1 {α : Type} (x : S1024x1.Idx → α) (inb) : VecWindow.window x ![0, 0] ![1024, 1] inb = x := window_full x inb
theorem window_S1x2816x256 {α : Type} (x : S1x2816x256.Idx → α) (inb) : VecWindow.window x ![0, 0, 0] ![1, 2816, 256] inb = x := window_full x inb
theorem window_S1x1x256 {α : Type} (x : S1x1x256.Idx → α) (inb) : VecWindow.window x ![0, 0, 0] ![1, 1, 256] inb = x := window_full x inb

/-! ## The body's runs, case by case -/

section Runs
variable (c : Dev nD) (i : grid1.Coords) (arg2 : Memref sig .tc .vmem S1024x2816 .fp8e4m3) (harg2 : arg2.IsWhole) (arg3 : Memref sig .tc .vmem S1024x1 .f32) (harg3 : arg3.IsWhole) (arg4 : Memref sig .tc .vmem S1024x8 .f32) (harg4 : arg4.IsWhole) (arg5 : Memref sig .tc .vmem S1x2816x256 .fp8e4m3) (harg5 : arg5.IsWhole) (arg6 : Memref sig .tc .vmem S1x2816x256 .fp8e4m3) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x2816x256 .fp8e4m3) (harg9 : arg9.IsWhole) (arg10 : Memref sig .tc .vmem S1x1x256 .f32) (harg10 : arg10.IsWhole) (arg11 : Memref sig .tc .vmem S1024x2816 .bf16) (harg11 : arg11.IsWhole) (arg12 : Memref sig .tc .vmem S1024x2816 .f32) (harg12 : arg12.IsWhole) (arg13 : Memref sig .tc .vmem S1024x2816 .fp8e4m3) (harg13 : arg13.IsWhole) (arg14 : Memref sig .tc .vmem S1024x1 .f32) (harg14 : arg14.IsWhole) (arg15 : Memref sig .tc .vmem S1024x2816 .f32) (harg15 : arg15.IsWhole)
    (x0 : Vec F S1024x2816 .fp8e4m3) (x1 : Vec F S1024x1 .f32) (x2 : Vec F S1024x8 .f32) (x3 : Vec F S1x2816x256 .fp8e4m3) (x4 : Vec F S1x2816x256 .fp8e4m3) (x5 : Vec F S1x1x256 .f32) (x6 : Vec F S1x1x256 .f32) (x7 : Vec F S1x2816x256 .fp8e4m3) (x8 : Vec F S1x1x256 .f32)
    (y : Vec F S1024x2816 .bf16) (act : Vec F S1024x2816 .f32) (ac : Vec F S1024x2816 .fp8e4m3) (asc : Vec F S1024x1 .f32) (acc : Vec F S1024x2816 .f32)

/-- The nine input blocks, held. -/
def insHeld : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8)
/-- The output's buffer and the four scratch buffers, held. -/
def scrHeld : sProp 𝕄 :=
  iprop(owns (c : Thread nD τ) arg11 fullShare y ∗ owns (c : Thread nD τ) arg12 fullShare act ∗ owns (c : Thread nD τ) arg13 fullShare ac ∗ owns (c : Thread nD τ) arg14 fullShare asc ∗ owns (c : Thread nD τ) arg15 fullShare acc)

set_option maxHeartbeats 1000000 in
/-- The body's run in the up half: the stripe of activations is stored and nothing else changes. -/
theorem run_up (hU : condU i) (hQ : ¬condQ i) (hD : ¬condD i) (hL : ¬condL i) (E : Set ℕ) (K : PUnit → sProp 𝕄) :
    iprop(insHeld c arg2 arg3 arg4 arg5 arg6 arg7 arg8 arg9 arg10 x0 x1 x2 x3 x4 x5 x6 x7 x8 ∗ scrHeld c arg11 arg12 arg13 arg14 arg15 y act ac asc acc
        ∗ (iprop(insHeld c arg2 arg3 arg4 arg5 arg6 arg7 arg8 arg9 arg10 x0 x1 x2 x3 x4 x5 x6 x7 x8
            ∗ scrHeld c arg11 arg12 arg13 arg14 arg15 y (VecWindow.put act (k1_off1 i) S1024x256.size (k1_pay1 x0 x1 x3 x5 x4 x6)) ac asc acc) -∗ K ⟨⟩))
      ⊢ wp frame (wpE (defs₀ (F := F)) Variants.none c none) E (cc1_experts i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_experts_eq_skeleton]; unfold cc1_experts_skel
  unfold insHeld scrHeld owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨⟨%f9, %hf9, H9⟩, ⟨%f10, %hf10, H10⟩, ⟨%f11, %hf11, H11⟩, ⟨%f12, %hf12, H12⟩, ⟨%f13, %hf13, H13⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec (disch := first | sl_exact hU | sl_exact hQ | sl_exact hD | sl_exact hL)
  sl_step
  iapply Hk
  isplitl [H0 H1 H2 H3 H4 H5 H6 H7 H8]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; isplitr; · ipureintro; exact harg10.read_unread _
    iexact H8
  isplitl [H9]
  · iexists _; isplitr; swap; · iexact H9
    ipureintro
    exact harg11.read_unread _
  isplitl [H10]
  · iexists _; isplitr; swap; · iexact H10
    ipureintro
    refine (View.read_writes_cons_put _ _ _ _ _ rfl).trans ?_
    simp only [View.writes_nil, readAt_window, Memref.IsWhole.read_unread, window_S1024x2816, window_S1024x8, window_S1024x1, window_S1x2816x256, window_S1x1x256]
  isplitl [H11]
  · iexists _; isplitr; swap; · iexact H11
    ipureintro
    exact harg13.read_unread _
  isplitl [H12]
  · iexists _; isplitr; swap; · iexact H12
    ipureintro
    exact harg14.read_unread _
  iexists _; isplitr; swap; · iexact H13
  ipureintro
  exact harg15.read_unread _

set_option maxHeartbeats 1000000 in
/-- The body's run in the quantising point: the whole activations' codes and gated scales are stored, and the first down stripe is added. -/
theorem run_quant (hU : ¬condU i) (hQ : condQ i) (hD : condD i) (hL : ¬condL i) (E : Set ℕ) (K : PUnit → sProp 𝕄) :
    iprop(insHeld c arg2 arg3 arg4 arg5 arg6 arg7 arg8 arg9 arg10 x0 x1 x2 x3 x4 x5 x6 x7 x8 ∗ scrHeld c arg11 arg12 arg13 arg14 arg15 y act ac asc acc
        ∗ (iprop(insHeld c arg2 arg3 arg4 arg5 arg6 arg7 arg8 arg9 arg10 x0 x1 x2 x3 x4 x5 x6 x7 x8
            ∗ scrHeld c arg11 arg12 arg13 arg14 arg15 y act (k1_pay2 act (k1_pay8 act) k1_pay9) (k1_pay3 i (k1_pay7 act) x2) (VecWindow.put acc (k1_off2 i) S1024x256.size (k1_pay4 i (k1_pay2 act (k1_pay8 act) k1_pay9) x7 (k1_pay3 i (k1_pay7 act) x2) x8 (VecWindow.window acc (k1_off2 i) S1024x256.size (k1_off2_inb i hD))))) -∗ K ⟨⟩))
      ⊢ wp frame (wpE (defs₀ (F := F)) Variants.none c none) E (cc1_experts i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_experts_eq_skeleton]; unfold cc1_experts_skel
  simp only [k1_part1_eq_skeleton]
  unfold insHeld scrHeld owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨⟨%f9, %hf9, H9⟩, ⟨%f10, %hf10, H10⟩, ⟨%f11, %hf11, H11⟩, ⟨%f12, %hf12, H12⟩, ⟨%f13, %hf13, H13⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec (disch := first | sl_exact hU | sl_exact hQ | sl_exact hD | sl_exact hL)
  sl_step
  iapply Hk
  isplitl [H0 H1 H2 H3 H4 H5 H6 H7 H8]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; isplitr; · ipureintro; exact harg10.read_unread _
    iexact H8
  isplitl [H9]
  · iexists _; isplitr; swap; · iexact H9
    ipureintro
    exact harg11.read_unread _
  isplitl [H10]
  · iexists _; isplitr; swap; · iexact H10
    ipureintro
    exact harg12.read_unread _
  isplitl [H11]
  · iexists _; isplitr; swap; · iexact H11
    ipureintro
    refine (View.read_writes_full _ _ _ _ _).trans ?_
    unfold run_quant.sl.r run_quant.sl.r_2
    simp only [View.writes_nil, readAt_window, Memref.IsWhole.read_unread, window_S1024x2816, window_S1024x8, window_S1024x1, window_S1x2816x256, window_S1x1x256]
  isplitl [H12]
  · iexists _; isplitr; swap; · iexact H12
    ipureintro
    refine (View.read_writes_full _ _ _ _ _).trans ?_
    unfold run_quant.sl.r_1
    simp only [View.writes_nil, readAt_window, Memref.IsWhole.read_unread, window_S1024x2816, window_S1024x8, window_S1024x1, window_S1x2816x256, window_S1x1x256]
  iexists _; isplitr; swap; · iexact H13
  ipureintro
  refine (View.read_writes_cons_put _ _ _ _ _ rfl).trans ?_
  simp only [View.writes_nil, readAt_window, Memref.IsWhole.read_unread, window_S1024x2816, window_S1024x8, window_S1024x1, window_S1x2816x256, window_S1x1x256]
  have e17 : run_quant.sl.v17 c arg12 harg12 arg13 act = k1_pay2 act (k1_pay8 act) k1_pay9 := by
    unfold run_quant.sl.v17
    refine (View.readCov_full _ _ _ _ _).trans ?_
    unfold run_quant.sl.r run_quant.sl.r_2
    simp only [readAt_window, Memref.IsWhole.read_unread, window_S1024x2816]
  have e21 : run_quant.sl.v21 c i arg4 harg4 arg12 harg12 arg14 x2 act = k1_pay3 i (k1_pay7 act) x2 := by
    unfold run_quant.sl.v21
    refine (View.readCov_full _ _ _ _ _).trans ?_
    unfold run_quant.sl.r_1
    simp only [readAt_window, Memref.IsWhole.read_unread, window_S1024x2816, window_S1024x8]
  rw [e17, e21]
  unfold run_quant.sl.v30
  simp only [readAt_window, Memref.IsWhole.read_unread]

set_option maxHeartbeats 1000000 in
/-- The body's run in the rest of the down half: one stripe of the accumulator gains its product. -/
theorem run_down (hU : ¬condU i) (hQ : ¬condQ i) (hD : condD i) (hL : ¬condL i) (E : Set ℕ) (K : PUnit → sProp 𝕄) :
    iprop(insHeld c arg2 arg3 arg4 arg5 arg6 arg7 arg8 arg9 arg10 x0 x1 x2 x3 x4 x5 x6 x7 x8 ∗ scrHeld c arg11 arg12 arg13 arg14 arg15 y act ac asc acc
        ∗ (iprop(insHeld c arg2 arg3 arg4 arg5 arg6 arg7 arg8 arg9 arg10 x0 x1 x2 x3 x4 x5 x6 x7 x8
            ∗ scrHeld c arg11 arg12 arg13 arg14 arg15 y act ac asc (VecWindow.put acc (k1_off2 i) S1024x256.size (k1_pay4 i ac x7 asc x8 (VecWindow.window acc (k1_off2 i) S1024x256.size (k1_off2_inb i hD))))) -∗ K ⟨⟩))
      ⊢ wp frame (wpE (defs₀ (F := F)) Variants.none c none) E (cc1_experts i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_experts_eq_skeleton]; unfold cc1_experts_skel
  unfold insHeld scrHeld owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨⟨%f9, %hf9, H9⟩, ⟨%f10, %hf10, H10⟩, ⟨%f11, %hf11, H11⟩, ⟨%f12, %hf12, H12⟩, ⟨%f13, %hf13, H13⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec (disch := first | sl_exact hU | sl_exact hQ | sl_exact hD | sl_exact hL)
  sl_step
  iapply Hk
  isplitl [H0 H1 H2 H3 H4 H5 H6 H7 H8]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; isplitr; · ipureintro; exact harg10.read_unread _
    iexact H8
  isplitl [H9]
  · iexists _; isplitr; swap; · iexact H9
    ipureintro
    exact harg11.read_unread _
  isplitl [H10]
  · iexists _; isplitr; swap; · iexact H10
    ipureintro
    exact harg12.read_unread _
  isplitl [H11]
  · iexists _; isplitr; swap; · iexact H11
    ipureintro
    exact harg13.read_unread _
  isplitl [H12]
  · iexists _; isplitr; swap; · iexact H12
    ipureintro
    exact harg14.read_unread _
  iexists _; isplitr; swap; · iexact H13
  ipureintro
  refine (View.read_writes_cons_put _ _ _ _ _ rfl).trans ?_
  simp only [View.writes_nil, readAt_window, Memref.IsWhole.read_unread, window_S1024x2816, window_S1024x8, window_S1024x1, window_S1x2816x256, window_S1x1x256]

set_option maxHeartbeats 1000000 in
/-- The body's run in the last point: a down stripe, then the accumulator rounded into the output. -/
theorem run_last (hU : ¬condU i) (hQ : ¬condQ i) (hD : condD i) (hL : condL i) (E : Set ℕ) (K : PUnit → sProp 𝕄) :
    iprop(insHeld c arg2 arg3 arg4 arg5 arg6 arg7 arg8 arg9 arg10 x0 x1 x2 x3 x4 x5 x6 x7 x8 ∗ scrHeld c arg11 arg12 arg13 arg14 arg15 y act ac asc acc
        ∗ (iprop(insHeld c arg2 arg3 arg4 arg5 arg6 arg7 arg8 arg9 arg10 x0 x1 x2 x3 x4 x5 x6 x7 x8
            ∗ scrHeld c arg11 arg12 arg13 arg14 arg15 (k1_pay5 (VecWindow.put acc (k1_off2 i) S1024x256.size (k1_pay4 i ac x7 asc x8 (VecWindow.window acc (k1_off2 i) S1024x256.size (k1_off2_inb i hD))))) act ac asc (VecWindow.put acc (k1_off2 i) S1024x256.size (k1_pay4 i ac x7 asc x8 (VecWindow.window acc (k1_off2 i) S1024x256.size (k1_off2_inb i hD))))) -∗ K ⟨⟩))
      ⊢ wp frame (wpE (defs₀ (F := F)) Variants.none c none) E (cc1_experts i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_experts_eq_skeleton]; unfold cc1_experts_skel
  unfold insHeld scrHeld owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨⟨%f9, %hf9, H9⟩, ⟨%f10, %hf10, H10⟩, ⟨%f11, %hf11, H11⟩, ⟨%f12, %hf12, H12⟩, ⟨%f13, %hf13, H13⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  letI : ClosedOff (k1_off2 i) := ⟨![0, 256 * (i 1).val - 2816], off2_eq i hD⟩
  sl_exec (disch := first | sl_exact hU | sl_exact hQ | sl_exact hD | sl_exact hL)
  sl_step
  iapply Hk
  isplitl [H0 H1 H2 H3 H4 H5 H6 H7 H8]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; isplitr; · ipureintro; exact harg10.read_unread _
    iexact H8
  isplitl [H9]
  · iexists _; isplitr; swap; · iexact H9
    ipureintro
    refine (View.read_writes_full _ _ _ _ _).trans ?_
    unfold run_last.sl.v14 run_last.sl.H13_1
    simp only [View.writes_nil, readAt_window, Memref.IsWhole.read_unread, window_S1024x2816, window_S1024x8, window_S1024x1, window_S1x2816x256, window_S1x1x256]
    refine congrArg k1_pay5 ((View.read_writes_cons_put _ _ _ _ _ rfl).trans ?_)
    simp only [View.writes_nil, readAt_window, Memref.IsWhole.read_unread, window_S1024x2816, window_S1024x8, window_S1024x1, window_S1x2816x256, window_S1x1x256]
  isplitl [H10]
  · iexists _; isplitr; swap; · iexact H10
    ipureintro
    exact harg12.read_unread _
  isplitl [H11]
  · iexists _; isplitr; swap; · iexact H11
    ipureintro
    exact harg13.read_unread _
  isplitl [H12]
  · iexists _; isplitr; swap; · iexact H12
    ipureintro
    exact harg14.read_unread _
  iexists _; isplitr; swap; · iexact H13
  ipureintro
  refine (View.read_writes_cons_put _ _ _ _ _ rfl).trans ?_
  simp only [View.writes_nil, readAt_window, Memref.IsWhole.read_unread, window_S1024x2816, window_S1024x8, window_S1024x1, window_S1x2816x256, window_S1x1x256]

end Runs

end Cert.Kernel.Gen

end
-- ==== Proof.Kernel.Experts.lean ====
/- The experts region: the values the scratch carries from point to point (an expert's activations, their codes and
   gated scales, the accumulator after each expert), the invariant that says how far they are built before a point,
   and the body's obligation at every point. -/
module

public import proofs.«01_k».proof.Proof.Kernel.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Stripes of 256 columns -/

/-- An index's place within its stripe. -/
def loc (y : S1024x2816.Idx) : S1024x256.Idx := fun a => match a with
  | ⟨0, _⟩ => ⟨(y 0).val, (y 0).isLt⟩
  | ⟨1, _⟩ => ⟨(y 1).val % 256, Nat.mod_lt _ (by decide)⟩

/-- The index at a place of stripe `j`. -/
def glob (j : ℕ) (z : S1024x256.Idx) : S1024x2816.Idx := fun a => match a with
  | ⟨0, _⟩ => ⟨(z 0).val, (z 0).isLt⟩
  | ⟨1, _⟩ => ⟨(256 * j + (z 1).val) % 2816, Nat.mod_lt _ (by decide)⟩

/-- Stripe `j` of a vector. -/
def stripe {α : Type} (x : S1024x2816.Idx → α) (j : ℕ) : S1024x256.Idx → α := fun z => x (glob j z)

theorem y1_lt (y : S1024x2816.Idx) : (y 1).val < 2816 := (y 1).isLt
theorem y0_lt (y : S1024x2816.Idx) : (y 0).val < 1024 := (y 0).isLt
theorem z1_lt (z : S1024x256.Idx) : (z 1).val < 256 := (z 1).isLt

theorem glob_val1 (j : ℕ) (hj : j < 11) (z : S1024x256.Idx) : (glob j z 1).val = 256 * j + (z 1).val := by
  have := z1_lt z
  show (256 * j + (z 1).val) % 2816 = _
  exact Nat.mod_eq_of_lt (by omega)

/-- A vector with a stripe put over it reads the stripe within it and the vector elsewhere. -/
theorem put_stripe {α : Type} (x : S1024x2816.Idx → α) (off : Fin 2 → ℕ) (j : ℕ) (hoff : off = ![0, 256 * j])
    (w : S1024x256.Idx → α) (y : S1024x2816.Idx) :
    VecWindow.put x off S1024x256.size w y = if (y 1).val / 256 = j then w (loc y) else x y := by
  subst hoff
  have h0 := y0_lt y
  unfold VecWindow.put
  by_cases hy : (y 1).val / 256 = j
  · have h : ∀ a : Fin 2, (![0, 256 * j] : Fin 2 → ℕ) a ≤ (y a).val ∧ (y a).val < (![0, 256 * j] : Fin 2 → ℕ) a + S1024x256.size a := by
      intro a
      match a with
      | ⟨0, _⟩ => exact ⟨Nat.zero_le _, by show (y 0).val < 0 + 1024; omega⟩
      | ⟨1, _⟩ => exact ⟨by show 256 * j ≤ (y 1).val; omega, by show (y 1).val < 256 * j + 256; omega⟩
    rw [dif_pos h, if_pos hy]
    exact congrArg w (funext fun a => by
      match a with
      | ⟨0, _⟩ => exact Fin.ext (by show (y 0).val - 0 = (y 0).val; omega)
      | ⟨1, _⟩ => exact Fin.ext (by show (y 1).val - 256 * j = (y 1).val % 256; omega))
  · rw [dif_neg, if_neg hy]
    intro h
    have h1 : 256 * j ≤ (y 1).val ∧ (y 1).val < 256 * j + 256 := h 1
    omega

/-- The window at a stripe's offsets is the stripe. -/
theorem window_stripe {α : Type} (x : S1024x2816.Idx → α) (off : Fin 2 → ℕ) (j : ℕ) (hoff : off = ![0, 256 * j]) (hj : j < 11)
    (inb : ∀ a : Fin 2, off a + S1024x256.size a ≤ S1024x2816.size a) :
    VecWindow.window (s := S1024x2816) x off S1024x256.size inb = stripe x j := by
  subst hoff
  funext z
  exact congrArg x (funext fun a => by
    match a with
    | ⟨0, _⟩ => exact Fin.ext (by show 0 + 1 * (z 0).val = (z 0).val; omega)
    | ⟨1, _⟩ =>
      have h1 := glob_val1 j hj z
      exact Fin.ext (by show 256 * j + 1 * (z 1).val = (glob j z 1).val; omega))

/-- At the first expert the down stripe does not read the accumulator. -/
theorem pay4_first (i : grid1.Coords) (h : (i 0).val = 0) (ac : Vec F S1024x2816 .fp8e4m3) (x7 : Vec F S1x2816x256 .fp8e4m3)
    (asc : Vec F S1024x1 .f32) (x8 : Vec F S1x1x256 .f32) (v v' : Vec F S1024x256 .f32) :
    k1_pay4 i ac x7 asc x8 v = k1_pay4 i ac x7 asc x8 v' := by
  unfold k1_pay4
  rw [h]
  rfl

section Regions
variable (V : (c : Dev nD) → (b : Ref sig .tc) → Buf (Elt F) ((c : Thread nD τ).loc b))

/-! ## What the scratch holds -/

/-- The grid point at position `n`. -/
def pt (n : ℕ) : Fin cfg1.N := ⟨n % 176, lt_of_lt_of_eq (Nat.mod_lt _ (by decide)) (show 176 = cfg1.N from N_1.symm)⟩

/-- The stripe of activations the point at position `n` computes. -/
def upBlk (c : Dev nD) (n : ℕ) : Vec F S1024x256 .f32 :=
  k1_pay1 (iblk1 V c 0 (pt n)) (iblk1 V c 1 (pt n)) (iblk1 V c 3 (pt n)) (iblk1 V c 5 (pt n)) (iblk1 V c 4 (pt n)) (iblk1 V c 6 (pt n))

/-- Expert `e`'s activations. -/
def actE (c : Dev nD) (e : ℕ) : Vec F S1024x2816 .f32 := fun y => upBlk V c (22 * e + (y 1).val / 256) (loc y)

/-- Their codes. -/
def acE (c : Dev nD) (e : ℕ) : Vec F S1024x2816 .fp8e4m3 := k1_pay2 (actE V c e) (k1_pay8 (actE V c e)) k1_pay9

/-- Their scales, times the expert's gates. -/
def asE (c : Dev nD) (e : ℕ) : Vec F S1024x1 .f32 :=
  k1_pay3 (grid1.coords (pt (22 * e + 11))) (k1_pay7 (actE V c e)) (iblk1 V c 2 (pt (22 * e + 11)))

/-- The accumulator's stripe after the down point of expert `e` at position `n`. -/
def downBlk (c : Dev nD) (e n : ℕ) (prev : Vec F S1024x256 .f32) : Vec F S1024x256 .f32 :=
  k1_pay4 (grid1.coords (pt n)) (acE V c e) (iblk1 V c 7 (pt n)) (asE V c e) (iblk1 V c 8 (pt n)) prev

/-- The accumulator after `e` experts. -/
def accE (c : Dev nD) : ℕ → Vec F S1024x2816 .f32
  | 0 => fun _ => Scalar.ofBits .f32 0#32
  | e + 1 => fun y => downBlk V c e (22 * e + 11 + (y 1).val / 256) (stripe (accE c e) ((y 1).val / 256)) (loc y)

/-- How far the scratch is built before the point at position `n`. -/
def Inv (c : Dev nD) (n : ℕ) (act : Vec F S1024x2816 .f32) (ac : Vec F S1024x2816 .fp8e4m3) (asc : Vec F S1024x1 .f32)
    (acc : Vec F S1024x2816 .f32) : Prop :=
  (∀ y : S1024x2816.Idx, (y 1).val < 256 * (n % 22) → act y = actE V c (n / 22) y)
  ∧ (11 < n % 22 → ac = acE V c (n / 22) ∧ asc = asE V c (n / 22))
  ∧ (∀ y : S1024x2816.Idx, (y 1).val + 2816 < 256 * (n % 22) → acc y = accE V c (n / 22 + 1) y)
  ∧ (∀ y : S1024x2816.Idx, 256 * (n % 22) ≤ (y 1).val + 2816 → 0 < n / 22 → acc y = accE V c (n / 22) y)

theorem Inv_zero (c : Dev nD) (act ac asc acc) : Inv V c 0 act ac asc acc :=
  ⟨fun y h => absurd h (Nat.not_lt_zero _), fun h => absurd h (by decide), fun y h => absurd h (by omega), fun y _ h => absurd h (by decide)⟩

theorem pt_val (t : Fin cfg1.N) : pt t.val = t := Fin.ext (Nat.mod_eq_of_lt (lt_of_lt_of_eq t.isLt (show cfg1.N = 176 from N_1)))

/-- An up point carries the invariant on. -/
theorem Inv_up (c : Dev nD) (t : Fin cfg1.N) (h : t.val % 22 < 11) (act ac asc acc) (H : Inv V c t.val act ac asc acc) :
    Inv V c (t.val + 1) (VecWindow.put act (k1_off1 (grid1.coords t)) S1024x256.size
      (k1_pay1 (iblk1 V c 0 t) (iblk1 V c 1 t) (iblk1 V c 3 t) (iblk1 V c 5 t) (iblk1 V c 4 t) (iblk1 V c 6 t))) ac asc acc := by
  obtain ⟨h1, h2, h3, h4⟩ := H
  have hoff : k1_off1 (grid1.coords t) = ![0, 256 * (t.val % 22)] := by
    rw [k1_off1_eq, coord1, Nat.div_one]
  have hq : (t.val + 1) / 22 = t.val / 22 := by omega
  have hr : (t.val + 1) % 22 = t.val % 22 + 1 := by omega
  unfold Inv
  rw [hq, hr]
  refine ⟨fun y hy => ?_, fun h => absurd h (by omega), fun y hy => absurd hy (by omega), fun y hy he => h4 y (by omega) he⟩
  rw [put_stripe _ _ _ hoff]
  split
  · rename_i hj
    unfold actE upBlk
    rw [hj, show 22 * (t.val / 22) + t.val % 22 = t.val by omega, pt_val]
  · exact h1 y (by omega)

/-- A down stripe put over the accumulator carries its part of the invariant on. -/
theorem acc_down (c : Dev nD) (t : Fin cfg1.N) (h : 11 ≤ t.val % 22) (acc : Vec F S1024x2816 .f32)
    (h3 : ∀ y : S1024x2816.Idx, (y 1).val + 2816 < 256 * (t.val % 22) → acc y = accE V c (t.val / 22 + 1) y)
    (h4 : ∀ y : S1024x2816.Idx, 256 * (t.val % 22) ≤ (y 1).val + 2816 → 0 < t.val / 22 → acc y = accE V c (t.val / 22) y)
    (inb) (acc' : Vec F S1024x2816 .f32)
    (hacc : acc' = VecWindow.put acc (k1_off2 (grid1.coords t)) S1024x256.size (k1_pay4 (grid1.coords t) (acE V c (t.val / 22)) (iblk1 V c 7 t)
      (asE V c (t.val / 22)) (iblk1 V c 8 t) (VecWindow.window acc (k1_off2 (grid1.coords t)) S1024x256.size inb))) :
    (∀ y : S1024x2816.Idx, (y 1).val + 2816 < 256 * (t.val % 22 + 1) → acc' y = accE V c (t.val / 22 + 1) y)
    ∧ (∀ y : S1024x2816.Idx, 256 * (t.val % 22 + 1) ≤ (y 1).val + 2816 → 0 < t.val / 22 → acc' y = accE V c (t.val / 22) y) := by
  have ht : t.val < 176 := lt_of_lt_of_eq t.isLt (show cfg1.N = 176 from N_1)
  have hoff : k1_off2 (grid1.coords t) = ![0, 256 * (t.val % 22 - 11)] := by
    rw [off2_eq _ ((hcondD t).mpr h), coord1, Nat.div_one, show 256 * (t.val % 22) - 2816 = 256 * (t.val % 22 - 11) by omega]
  subst hacc
  rw [window_stripe _ _ _ hoff (by omega)]
  refine ⟨fun y hy => ?_, fun y hy he => ?_⟩
  · rw [put_stripe _ _ _ hoff]
    split
    · rename_i hj
      rw [accE]
      dsimp only
      rw [hj]
      unfold downBlk
      rw [show 22 * (t.val / 22) + 11 + (t.val % 22 - 11) = t.val by omega, pt_val]
      by_cases he : 0 < t.val / 22
      · rw [show stripe acc (t.val % 22 - 11) = stripe (accE V c (t.val / 22)) (t.val % 22 - 11) from
          funext fun z => h4 _ (by rw [glob_val1 _ (by omega)]; omega) he]
      · exact congrFun (pay4_first _ (by rw [coord0]; omega) _ _ _ _ _ _) _
    · exact h3 y (by omega)
  · rw [put_stripe _ _ _ hoff, if_neg (by omega)]
    exact h4 y (by omega) he

/-- The next position's invariant from its parts, whichever way the step counter goes. -/
theorem Inv_next (c : Dev nD) (n : ℕ) (h : 11 ≤ n % 22) (act ac asc acc)
    (h1 : ∀ y : S1024x2816.Idx, act y = actE V c (n / 22) y) (h2 : ac = acE V c (n / 22) ∧ asc = asE V c (n / 22))
    (h34 : (∀ y : S1024x2816.Idx, (y 1).val + 2816 < 256 * (n % 22 + 1) → acc y = accE V c (n / 22 + 1) y)
      ∧ (∀ y : S1024x2816.Idx, 256 * (n % 22 + 1) ≤ (y 1).val + 2816 → 0 < n / 22 → acc y = accE V c (n / 22) y)) :
    Inv V c (n + 1) act ac asc acc := by
  unfold Inv
  by_cases hl : n % 22 = 21
  · have hq : (n + 1) / 22 = n / 22 + 1 := by omega
    have hr : (n + 1) % 22 = 0 := by omega
    rw [hq, hr]
    exact ⟨fun y h => absurd h (Nat.not_lt_zero _), fun h => absurd h (by decide), fun y h => absurd h (by omega),
      fun y _ _ => h34.1 y (by have := y1_lt y; omega)⟩
  · have hq : (n + 1) / 22 = n / 22 := by omega
    have hr : (n + 1) % 22 = n % 22 + 1 := by omega
    rw [hq, hr]
    exact ⟨fun y _ => h1 y, fun _ => h2, h34.1, h34.2⟩

/-- The quantising point carries the invariant on. -/
theorem Inv_quant (c : Dev nD) (t : Fin cfg1.N) (h : t.val % 22 = 11) (act ac asc acc) (inb) (H : Inv V c t.val act ac asc acc) :
    Inv V c (t.val + 1) act (k1_pay2 act (k1_pay8 act) k1_pay9) (k1_pay3 (grid1.coords t) (k1_pay7 act) (iblk1 V c 2 t))
      (VecWindow.put acc (k1_off2 (grid1.coords t)) S1024x256.size (k1_pay4 (grid1.coords t) (k1_pay2 act (k1_pay8 act) k1_pay9) (iblk1 V c 7 t)
        (k1_pay3 (grid1.coords t) (k1_pay7 act) (iblk1 V c 2 t)) (iblk1 V c 8 t)
        (VecWindow.window acc (k1_off2 (grid1.coords t)) S1024x256.size inb))) := by
  obtain ⟨h1, h2, h3, h4⟩ := H
  have hact : act = actE V c (t.val / 22) := funext fun y => h1 y (by have := y1_lt y; omega)
  have hac : k1_pay2 act (k1_pay8 act) k1_pay9 = acE V c (t.val / 22) := by rw [hact]; rfl
  have has : k1_pay3 (grid1.coords t) (k1_pay7 act) (iblk1 V c 2 t) = asE V c (t.val / 22) := by
    unfold asE
    rw [hact, show 22 * (t.val / 22) + 11 = t.val by omega, pt_val]
  rw [hac, has]
  exact Inv_next V c _ (by omega) _ _ _ _ (fun y => congrFun hact y) ⟨rfl, rfl⟩ (acc_down V c t (by omega) acc h3 h4 inb _ rfl)

/-- A later down point carries the invariant on. -/
theorem Inv_down (c : Dev nD) (t : Fin cfg1.N) (h : 11 < t.val % 22) (act ac asc acc) (inb) (H : Inv V c t.val act ac asc acc) :
    Inv V c (t.val + 1) act ac asc
      (VecWindow.put acc (k1_off2 (grid1.coords t)) S1024x256.size (k1_pay4 (grid1.coords t) ac (iblk1 V c 7 t)
        asc (iblk1 V c 8 t) (VecWindow.window acc (k1_off2 (grid1.coords t)) S1024x256.size inb))) := by
  obtain ⟨h1, h2, h3, h4⟩ := H
  obtain ⟨rfl, rfl⟩ := h2 h
  exact Inv_next V c _ (by omega) _ _ _ _ (fun y => h1 y (by have := y1_lt y; omega)) ⟨rfl, rfl⟩ (acc_down V c t (by omega) acc h3 h4 inb _ rfl)

/-- After the last point the accumulator is that of all eight experts. -/
theorem Inv_last (c : Dev nD) (act ac asc acc) (H : Inv V c 176 act ac asc acc) : acc = accE V c 8 :=
  funext fun y => H.2.2.2 y (by omega) (by decide)

/-! ## Where the windows are idle -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- Window 7 is never idle (an input). -/
theorem liveAt1_7 : ∀ t : Fin cfg1.N, cfg1.idle 7 (grid1.coords t) = false := fun _ => rfl
/-- Window 8 is never idle (an input). -/
theorem liveAt1_8 : ∀ t : Fin cfg1.N, cfg1.idle 8 (grid1.coords t) = false := fun _ => rfl
/-- The output window is idle before the last point … -/
theorem idleAt1_9 : ∀ t : Fin cfg1.N, ¬condL (grid1.coords t) → cfg1.idle 9 (grid1.coords t) = true := by decide +kernel
/-- … where it is not written back … -/
theorem noFlush1_9 : ∀ t : Fin cfg1.N, ¬condL (grid1.coords t) → (cfg1.win 9).flush t = false := by decide +kernel
/-- … and live at it. -/
theorem liveAt1_9 : ∀ t : Fin cfg1.N, condL (grid1.coords t) → cfg1.idle 9 (grid1.coords t) = false := by decide +kernel

abbrev ms1_0 (t : Fin cfg1.N) : Memref sig .tc .vmem S1024x2816 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x8 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2816x256 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2816x256 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2816x256 .fp8e4m3 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1024x2816 .bf16 := win1_9.stage (cfg1.slots t 9)
abbrev hs1_9 (t : Fin cfg1.N) : (ms1_9 t).IsWhole := hstage1_9 ((cfg1.slots t 9).cast nbuf1_9)
/-- The scratch operands: whole scoped buffers of the kernel's own, passed beside the windows. -/
abbrev scM1_0 : Memref sig .tc .vmem S1024x2816 .f32 := Memref.whole cc1_scratch0
abbrev scM1_1 : Memref sig .tc .vmem S1024x2816 .fp8e4m3 := Memref.whole cc1_scratch1
abbrev scM1_2 : Memref sig .tc .vmem S1024x1 .f32 := Memref.whole cc1_scratch2
abbrev scM1_3 : Memref sig .tc .vmem S1024x2816 .f32 := Memref.whole cc1_scratch3

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

/-! ## The pipeline's proof data -/

/-- What the region holds before position `n`: the router's staging buffers at anything, the scratch built as far as
    `Inv` says, and the generator register. -/
def PhiS (c : Dev nD) (n : ℕ) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f))
    ∗ (∃ act ac asc acc, ⌜Inv V c n act ac asc acc⌝ ∗ owns (c : Thread nD τ) scM1_0 fullShare act ∗ owns (c : Thread nD τ) scM1_1 fullShare ac ∗ owns (c : Thread nD τ) scM1_2 fullShare asc ∗ owns (c : Thread nD τ) scM1_3 fullShare acc)
    ∗ (∃ r, prngReg c r))

/-- At the region's entry the scratch may hold anything. -/
theorem PhiS_of_PhiA (c : Dev nD) : (Pipeline.ΦA spec1 c : sProp 𝕄) ⊢ PhiS V c 0 := by
  rw [PhiA1_eq]; unfold PhiS
  iintro ⟨⟨HR0, HR1, HR2, HR3, HR4, ⟨%d0, HS0⟩, ⟨%d1, HS1⟩, ⟨%d2, HS2⟩, ⟨%d3, HS3⟩⟩, Hg⟩
  isplitl [HR0 HR1 HR2 HR3 HR4]
  · isplitl [HR0]; · iexact HR0
    isplitl [HR1]; · iexact HR1
    isplitl [HR2]; · iexact HR2
    isplitl [HR3]; · iexact HR3
    iexact HR4
  isplitl [HS0 HS1 HS2 HS3]
  · iexists d0, d1, d2, d3
    isplitr; · ipureintro; exact Inv_zero V c d0 d1 d2 d3
    isplitl [HS0]; · iexact HS0
    isplitl [HS1]; · iexact HS1
    isplitl [HS2]; · iexact HS2
    iexact HS3
  iexact Hg

/-- At its exit what it holds is forgotten. -/
theorem PhiA_of_PhiS (c : Dev nD) (n : ℕ) : (PhiS V c n : sProp 𝕄) ⊢ Pipeline.ΦA spec1 c := by
  rw [PhiA1_eq]; unfold PhiS
  iintro ⟨⟨HR0, HR1, HR2, HR3, HR4⟩, ⟨%d0, %d1, %d2, %d3, -, HS0, HS1, HS2, HS3⟩, Hg⟩
  isplitl [HR0 HR1 HR2 HR3 HR4 HS0 HS1 HS2 HS3]
  · isplitl [HR0]; · iexact HR0
    isplitl [HR1]; · iexact HR1
    isplitl [HR2]; · iexact HR2
    isplitl [HR3]; · iexact HR3
    isplitl [HR4]; · iexact HR4
    isplitl [HS0]; · iexists d0; iexact HS0
    isplitl [HS1]; · iexists d1; iexact HS1
    isplitl [HS2]; · iexists d2; iexact HS2
    iexists d3; iexact HS3
  iexact Hg

/-- The proof data of pipeline 1 on core `c`: the arrays as the region finds them (`V`); after the body at
    point `t` each input's buffer at its block, the output's at the rounded accumulator of all experts (written at the last
    point only); the invariant `PhiS`; nothing owed; each input's share of its array. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => k1_pay5 (accE V c 8)
  Φ t := PhiS V c t.val
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = k1_pay5 (accE V c 8) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

/-- The invariant at a point's start … -/
theorem at_castSucc {α : Sort _} {N : ℕ} (S : ℕ → α) (t : Fin N) : S t.castSucc.val = S t.val := rfl
/-- … and at its end. -/
theorem at_succ {α : Sort _} {N : ℕ} (S : ℕ → α) (t : Fin N) : S t.succ.val = S (t.val + 1) := rfl
theorem Phi_castSucc (c : Dev nD) (t : Fin cfg1.N) : (dat1 V c).Φ t.castSucc = PhiS V c t.val := by
  dsimp only [dat1]; exact at_castSucc (PhiS V c) t
theorem Phi_succ (c : Dev nD) (t : Fin cfg1.N) : (dat1 V c).Φ t.succ = PhiS V c (t.val + 1) := by
  dsimp only [dat1]; exact at_succ (PhiS V c) t

set_option maxHeartbeats 2400000 in
/-- The body at any point: the inputs' memrefs hold their blocks; the point's step says which of the four cases it is in;
    the case's run applies, and the invariant is carried on. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [Phi_castSucc, Phi_succ, show (dat1 V c).owesAt () t.succ = (dat1 V c).owesAt () t.castSucc from rfl]
  have hN : t.val < 176 := lt_of_lt_of_eq t.isLt (show cfg1.N = 176 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  rw [show (dat1 V c).leavesExact 6 t = owns (c : Thread nD τ) (ms1_6 t) fullShare ((dat1 V c).after 6 t) from by
      unfold Dat.leavesExact; rw [liveAt1_6 t], after1_6]
  rw [show (dat1 V c).leavesExact 7 t = owns (c : Thread nD τ) (ms1_7 t) fullShare ((dat1 V c).after 7 t) from by
      unfold Dat.leavesExact; rw [liveAt1_7 t], after1_7]
  rw [show (dat1 V c).leavesExact 8 t = owns (c : Thread nD τ) (ms1_8 t) fullShare ((dat1 V c).after 8 t) from by
      unfold Dat.leavesExact; rw [liveAt1_8 t], after1_8]
  unfold PhiS
  by_cases hu : t.val % 22 < 11
  · rw [Dat.leavesExact_idle (dat1 V c) 9 t (idleAt1_9 t (fun h => absurd ((hcondL t).mp h) (by omega))) (noFlush1_9 t (fun h => absurd ((hcondL t).mp h) (by omega)))]
    iintro ⟨⟨HR, ⟨%act, %ac, %asc, %acc, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hI' := Inv_up V c t hu act ac asc acc hI
    iapply (run_up c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) _ act ac asc acc ((hcondU t).mpr hu) (fun h => absurd ((hcondQ t).mp h) (by omega)) (fun h => absurd ((hcondD t).mp h) (by omega)) (fun h => absurd ((hcondL t).mp h) (by omega)) Set.univ _)
    unfold insHeld scrHeld
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9 HS0 HS1 HS2 HS3]
    · isplitl [H9]; · iexact H9
      isplitl [HS0]; · iexact HS0
      isplitl [HS1]; · iexact HS1
      isplitl [HS2]; · iexact HS2
      iexact HS3
    iintro ⟨⟨H0, H1, H2, H3, H4, H5, H6, H7, H8⟩, ⟨H9, HS0, HS1, HS2, HS3⟩⟩
    isplitl [HR HS0 HS1 HS2 HS3 Hg]
    · isplitl [HR]; · iexact HR
      isplitl [HS0 HS1 HS2 HS3]
      · iexists _, _, _, _
        isplitr; · ipureintro; exact hI'
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  by_cases hq : t.val % 22 = 11
  · rw [Dat.leavesExact_idle (dat1 V c) 9 t (idleAt1_9 t (fun h => absurd ((hcondL t).mp h) (by omega))) (noFlush1_9 t (fun h => absurd ((hcondL t).mp h) (by omega)))]
    iintro ⟨⟨HR, ⟨%act, %ac, %asc, %acc, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hI' := Inv_quant V c t hq act ac asc acc (k1_off2_inb (grid1.coords t) ((hcondD t).mpr (by omega))) hI
    iapply (run_quant c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) _ act ac asc acc (fun h => absurd ((hcondU t).mp h) (by omega)) ((hcondQ t).mpr hq) ((hcondD t).mpr (by omega)) (fun h => absurd ((hcondL t).mp h) (by omega)) Set.univ _)
    unfold insHeld scrHeld
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9 HS0 HS1 HS2 HS3]
    · isplitl [H9]; · iexact H9
      isplitl [HS0]; · iexact HS0
      isplitl [HS1]; · iexact HS1
      isplitl [HS2]; · iexact HS2
      iexact HS3
    iintro ⟨⟨H0, H1, H2, H3, H4, H5, H6, H7, H8⟩, ⟨H9, HS0, HS1, HS2, HS3⟩⟩
    isplitl [HR HS0 HS1 HS2 HS3 Hg]
    · isplitl [HR]; · iexact HR
      isplitl [HS0 HS1 HS2 HS3]
      · iexists _, _, _, _
        isplitr; · ipureintro; exact hI'
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  by_cases hl : t.val = 175
  · rw [show (dat1 V c).leavesExact 9 t = owns (c : Thread nD τ) (ms1_9 t) fullShare ((dat1 V c).after 9 t) from by
      unfold Dat.leavesExact; rw [liveAt1_9 t ((hcondL t).mpr hl)], after1_9]
    iintro ⟨⟨HR, ⟨%act, %ac, %asc, %acc, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hI' := Inv_down V c t (by omega) act ac asc acc (k1_off2_inb (grid1.coords t) ((hcondD t).mpr (by omega))) hI
    have hI'' := hI'
    rw [show t.val + 1 = 176 by omega] at hI''
    iapply (run_last c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) _ act ac asc acc (fun h => absurd ((hcondU t).mp h) (by omega)) (fun h => absurd ((hcondQ t).mp h) (by omega)) ((hcondD t).mpr (by omega)) ((hcondL t).mpr hl) Set.univ _)
    unfold insHeld scrHeld
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9 HS0 HS1 HS2 HS3]
    · isplitl [H9]; · iexact H9
      isplitl [HS0]; · iexact HS0
      isplitl [HS1]; · iexact HS1
      isplitl [HS2]; · iexact HS2
      iexact HS3
    iintro ⟨⟨H0, H1, H2, H3, H4, H5, H6, H7, H8⟩, ⟨H9, HS0, HS1, HS2, HS3⟩⟩
    isplitl [HR HS0 HS1 HS2 HS3 Hg]
    · isplitl [HR]; · iexact HR
      isplitl [HS0 HS1 HS2 HS3]
      · iexists _, _, _, _
        isplitr; · ipureintro; exact hI'
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    rw [Inv_last V c _ _ _ _ hI'']; iexact H9
  · rw [Dat.leavesExact_idle (dat1 V c) 9 t (idleAt1_9 t (fun h => absurd ((hcondL t).mp h) (by omega))) (noFlush1_9 t (fun h => absurd ((hcondL t).mp h) (by omega)))]
    iintro ⟨⟨HR, ⟨%act, %ac, %asc, %acc, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hI' := Inv_down V c t (by omega) act ac asc acc (k1_off2_inb (grid1.coords t) ((hcondD t).mpr (by omega))) hI
    iapply (run_down c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) _ act ac asc acc (fun h => absurd ((hcondU t).mp h) (by omega)) (fun h => absurd ((hcondQ t).mp h) (by omega)) ((hcondD t).mpr (by omega)) (fun h => absurd ((hcondL t).mp h) (by omega)) Set.univ _)
    unfold insHeld scrHeld
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9 HS0 HS1 HS2 HS3]
    · isplitl [H9]; · iexact H9
      isplitl [HS0]; · iexact HS0
      isplitl [HS1]; · iexact HS1
      isplitl [HS2]; · iexact HS2
      iexact HS3
    iintro ⟨⟨H0, H1, H2, H3, H4, H5, H6, H7, H8⟩, ⟨H9, HS0, HS1, HS2, HS3⟩⟩
    isplitl [HR HS0 HS1 HS2 HS3 Hg]
    · isplitl [HR]; · iexact HR
      isplitl [HS0 HS1 HS2 HS3]
      · iexists _, _, _, _
        isplitr; · ipureintro; exact hI'
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Gen

end
-- ==== Proof.Kernel.Run.lean ====
/- The run of the whole program: its segments from the launch to the return, what every unscoped buffer holds at the
   end, and the frame read off it. -/
module

public import proofs.«01_k».proof.Proof.Kernel.Experts

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3, main_v4]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W3`, left at `W4`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (show Pipeline.ΦA spec1 c ⊢ (pdats m ρ 1 c).Φ 0 from PhiS_of_PhiA (V3 m ρ) c)
    unfold Pipeline.ΦA
    iintro ⟨Hp, -, Hr⟩
    isplitl [Hr]; · iexact Hr
    iexact Hp
  hout c := by
    rw [Pipeline.ownSems0_none]
    refine BI.BIBase.Entails.trans (show (pdats m ρ 1 c).Φ (Fin.last _) ⊢ Pipeline.ΦA spec1 c from PhiA_of_PhiS (V3 m ρ) c cfg1.N) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run: on the compiled mesh, from any memory with zero counters, every weakly fair execution of @main on the
    TensorCores terminates, nothing faulting, and in every final state each unscoped buffer holds what the last boundary
    says and every semaphore counter of the machine is at zero. -/
theorem run : θ_run defs (onTc (τ := τ) (main (F := F))) ⟨m, fun _ => 0, ρ⟩ (fun r => (∀ c : Dev nD,
      ∀ b ∈ Pipeline.ucRefs τ sig, r.2.mem ((c : Thread nD τ).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: every final state has the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c)⟩, h.2⟩) (run m ρ)

end Cert.Kernel.Gen

end
-- ==== Proof.KernelIdeal.Router.lean ====
/- The router region of the program at `Ideal`: each window's block at the single grid point, what the body leaves in
   each output's staging buffer, and the body's obligation; then the windows' blocks of the experts region. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # REGION 0 of @main: custom_call 0, `cc0_router` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x2816 := Rect.unit (s := S1024x2816) ![0, 0] S1024x2816.size inb_S1024x2816_S1024x2816_0_0
abbrev r0_1 : Rect S2816x8 := Rect.unit (s := S2816x8) ![0, 0] S2816x8.size inb_S2816x8_S2816x8_0_0
abbrev r0_2 : Rect S1024x8 := Rect.unit (s := S1024x8) ![0, 0] S1024x8.size inb_S1024x8_S1024x8_0_0
abbrev r0_3 : Rect S1024x1 := Rect.unit (s := S1024x1) ![0, 0] S1024x1.size inb_S1024x1_S1024x1_0_0

/-! ## What the body leaves in each output window's buffer -/

/-! ### Values of the body that the stores' payloads, spelt out, would write more than once

    Each is a vector the body binds (often a part call's result), stated over the input windows' blocks and
    numbered on from the skeleton's payload functions (`k0_pay16` …, after `k0_pay15`), so that
    `out0_W` and the values after it name it instead of spelling it out ; the comment after each is the printed function's
    name for the value (a count appended where that name is bound again). -/

def k0_pay16 (x0 : Vec F S1024x2816 .bf16) (x1 : Vec F S2816x8 .f32) : FVec F S1024x2816 .f32 :=
  k0_pay4 (View.ld x0 r0_0) -- `v2`
def k0_pay17 (x0 : Vec F S1024x2816 .bf16) (x1 : Vec F S2816x8 .f32) : FVec F S1024x1 .f32 :=
  k0_pay13 (k0_pay16 x0 x1) -- `v71`
def k0_pay18 (x0 : Vec F S1024x2816 .bf16) (x1 : Vec F S2816x8 .f32) : FVec F S1024x1 .f32 :=
  k0_pay14 (k0_pay16 x0 x1) -- `v73`
def k0_pay19 (x0 : Vec F S1024x2816 .bf16) (x1 : Vec F S2816x8 .f32) : IVec S1024x253 32 :=
  k0_pay15 (k0_pay16 x0 x1) -- `v86`

/-- Window 2's staging buffer after the body, from the input windows' blocks: its 1 store as pieces, LAST
    FIRST (Lib/Pipeline/FrameBody.lean `View.canon`; the payloads are the skeleton's and the values stated above). -/
def out0_2 (x0 : Vec F S1024x2816 .bf16) (x1 : Vec F S2816x8 .f32) : Vec F S1024x2816 .fp8e4m3 :=
  View.canon [⟨r0_0, k0_pay3 (k0_pay16 x0 x1) (k0_pay17 x0 x1) (k0_pay18 x0 x1) (k0_pay19 x0 x1)⟩]

/-- Its stores tile the buffer (checked by evaluation), so they cover it. -/
theorem cover0_2 (p0 : Vec F S1024x2816 .fp8e4m3) (y : S1024x2816.Idx) :
    ∃ pc ∈ ([⟨r0_0, p0⟩] : List (View.Piece (Elt F) S1024x2816 .fp8e4m3)), y ∈ pc.1.set :=
  View.cover_of_tiled [⟨r0_0, p0⟩] S1024x2816.size (by rfl) y

/-- Window 3's staging buffer after the body, from the input windows' blocks: its 1 store as pieces, LAST
    FIRST (Lib/Pipeline/FrameBody.lean `View.canon`; the payloads are the skeleton's and the values stated above). -/
def out0_3 (x0 : Vec F S1024x2816 .bf16) (x1 : Vec F S2816x8 .f32) : Vec F S1024x1 .f32 :=
  View.canon [⟨r0_3, k0_pay2 (k0_pay17 x0 x1) (k0_pay18 x0 x1) (k0_pay19 x0 x1)⟩]

/-- Its stores tile the buffer (checked by evaluation), so they cover it. -/
theorem cover0_3 (p0 : Vec F S1024x1 .f32) (y : S1024x1.Idx) :
    ∃ pc ∈ ([⟨r0_3, p0⟩] : List (View.Piece (Elt F) S1024x1 .f32)), y ∈ pc.1.set :=
  View.cover_of_tiled [⟨r0_3, p0⟩] S1024x1.size (by rfl) y

/-- Window 4's staging buffer after the body, from the input windows' blocks: its 1 store as pieces, LAST
    FIRST (Lib/Pipeline/FrameBody.lean `View.canon`; the payloads are the skeleton's and the values stated above). -/
def out0_4 (x0 : Vec F S1024x2816 .bf16) (x1 : Vec F S2816x8 .f32) : Vec F S1024x8 .f32 :=
  View.canon [⟨r0_2, k0_pay12 (k0_pay5 (View.ld x0 r0_0) (View.ld x1 r0_1)) (iota .tc S1024x8 32 [1] iota_S1024x8_d1_w32) (k0_pay9 (View.ld x0 r0_0) (View.ld x1 r0_1)) (k0_pay10 (View.ld x0 r0_0) (View.ld x1 r0_1)) (k0_pay11 (View.ld x0 r0_0) (View.ld x1 r0_1))⟩]

/-- Its stores tile the buffer (checked by evaluation), so they cover it. -/
theorem cover0_4 (p0 : Vec F S1024x8 .f32) (y : S1024x8.Idx) :
    ∃ pc ∈ ([⟨r0_2, p0⟩] : List (View.Piece (Elt F) S1024x8 .f32)), y ∈ pc.1.set :=
  View.cover_of_tiled [⟨r0_2, p0⟩] S1024x8.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (arg0 : Memref sig .tc .vmem S1024x2816 .bf16) (harg0 : arg0.IsWhole) (arg1 : Memref sig .tc .vmem S2816x8 .f32) (harg1 : arg1.IsWhole) (arg2 : Memref sig .tc .vmem S1024x2816 .fp8e4m3) (harg2 : arg2.IsWhole) (arg3 : Memref sig .tc .vmem S1024x1 .f32) (harg3 : arg3.IsWhole) (arg4 : Memref sig .tc .vmem S1024x8 .f32) (harg4 : arg4.IsWhole)
    (x0 : Vec F S1024x2816 .bf16) (x1 : Vec F S2816x8 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1) ∗ owns (c : Thread nD τ) arg4 fullShare (out0_4 x0 x1)) -∗ K ⟨⟩))
      ⊢ wp frame (wpE (defs₀ (F := F)) Variants.none c none) E (cc0_router arg0 harg0 arg1 harg1 arg2 harg2 arg3 harg3 arg4 harg4) K := by
  simp only [cc0_router_eq_skeleton]; unfold cc0_router_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_experts` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

end Regions

end Cert.KernelIdeal.Gen

end
-- ==== Proof.KernelIdeal.Runs.lean ====
/- The experts region: what the body does to the scratch buffers in each of its four cases (the up stripe, the
   quantisation, the down stripe, the last point). -/
module

public import proofs.«01_k».proof.Proof.KernelIdeal.Router
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, from the point -/

/-- The point is in an expert's up half. -/
abbrev condU (i : grid1.Coords) : Prop := k1_cond1 i = 1#1
/-- The point quantises the activations. -/
abbrev condQ (i : grid1.Coords) : Prop :=
  (Scalar.cmpi .ne (Scalar.extui (Scalar.cmpi .eq (BitVec.ofNat 32 (i 1).val) 11#32) : BitVec 32) 0#32 : BitVec 1) = 1#1
/-- The point is in an expert's down half. -/
abbrev condD (i : grid1.Coords) : Prop := k1_cond3 i = 1#1
/-- The point is the last one. -/
abbrev condL (i : grid1.Coords) : Prop := k1_cond4 i = 1#1

/-- The expert of a point. -/
theorem coord0 (t : Fin grid1.N) : (grid1.coords t 0).val = t.val / 22 % 8 := Pipeline.Grid.coords_val t 0 (by decide) rfl
/-- The step of a point within its expert. -/
theorem coord1 (t : Fin grid1.N) : (grid1.coords t 1).val = t.val / 1 % 22 := Pipeline.Grid.coords_val t 1 (by decide) rfl

theorem hcondU (t : Fin grid1.N) : condU (grid1.coords t) ↔ t.val % 22 < 11 := by
  have ht : t.val < 176 := Nat.lt_of_lt_of_eq t.isLt N_1
  simp only [condU, k1_cond1, coord1]
  word_cmp
theorem hcondQ (t : Fin grid1.N) : condQ (grid1.coords t) ↔ t.val % 22 = 11 := by
  have ht : t.val < 176 := Nat.lt_of_lt_of_eq t.isLt N_1
  simp only [condQ, coord1]
  word_cmp
theorem hcondD (t : Fin grid1.N) : condD (grid1.coords t) ↔ 11 ≤ t.val % 22 := by
  have ht : t.val < 176 := Nat.lt_of_lt_of_eq t.isLt N_1
  simp only [condD, k1_cond3, coord1]
  word_cmp
theorem hcondL (t : Fin grid1.N) : condL (grid1.coords t) ↔ t.val = 175 := by
  have ht : t.val < 176 := Nat.lt_of_lt_of_eq t.isLt N_1
  simp only [condL, k1_cond4, coord0, coord1]
  word_cmp

/-- In the down half the stripe's offsets are those of the step's column block. -/
theorem off2_eq : ∀ i : grid1.Coords, condD i → k1_off2 i = ![0, 256 * (i 1).val - 2816] := by decide +kernel

/-- A load through a unit-stride rectangle reads a window of what the view reads. -/
theorem readAt_window {κ : Kind} {sp : Space} {s : Shape} {e : EltTy} (v : View sig κ sp s e) (f : v.ty.Contents (Elt F))
    {off size : Fin s.rank → ℕ} (inb : ∀ a, off a + size a ≤ s.size a) :
    v.readAt (Elt F) (Rect.unit off size inb).toLoadRect f = VecWindow.window (v.read (Elt F) f) off size inb := rfl

/-- A window of a vector's own sizes is the vector. -/
theorem window_full {s : Shape} {α : Type} (x : s.Idx → α) {off : Fin s.rank → ℕ} (inb : ∀ a, off a + s.size a ≤ s.size a) :
    VecWindow.window x off s.size inb = x := by
  funext y
  exact congrArg x (funext fun a => Fin.ext (by
    show off a + 1 * (y a).val = (y a).val
    have := inb a; omega))
theorem window_S1024x2816 {α : Type} (x : S1024x2816.Idx → α) (inb) : VecWindow.window x ![0, 0] ![1024, 2816] inb = x := window_full x inb
theorem window_S1024x8 {α : Type} (x : S1024x8.Idx → α) (inb) : VecWindow.window x ![0, 0] ![1024, 8] inb = x := window_full x inb
theorem window_S1024x1 {α : Type} (x : S1024x1.Idx → α) (inb) : VecWindow.window x ![0, 0] ![1024, 1] inb = x := window_full x inb
theorem window_S1x2816x256 {α : Type} (x : S1x2816x256.Idx → α) (inb) : VecWindow.window x ![0, 0, 0] ![1, 2816, 256] inb = x := window_full x inb
theorem window_S1x1x256 {α : Type} (x : S1x1x256.Idx → α) (inb) : VecWindow.window x ![0, 0, 0] ![1, 1, 256] inb = x := window_full x inb

/-! ## The body's runs, case by case -/

section Runs
variable (c : Dev nD) (i : grid1.Coords) (arg2 : Memref sig .tc .vmem S1024x2816 .fp8e4m3) (harg2 : arg2.IsWhole) (arg3 : Memref sig .tc .vmem S1024x1 .f32) (harg3 : arg3.IsWhole) (arg4 : Memref sig .tc .vmem S1024x8 .f32) (harg4 : arg4.IsWhole) (arg5 : Memref sig .tc .vmem S1x2816x256 .fp8e4m3) (harg5 : arg5.IsWhole) (arg6 : Memref sig .tc .vmem S1x2816x256 .fp8e4m3) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x2816x256 .fp8e4m3) (harg9 : arg9.IsWhole) (arg10 : Memref sig .tc .vmem S1x1x256 .f32) (harg10 : arg10.IsWhole) (arg11 : Memref sig .tc .vmem S1024x2816 .bf16) (harg11 : arg11.IsWhole) (arg12 : Memref sig .tc .vmem S1024x2816 .f32) (harg12 : arg12.IsWhole) (arg13 : Memref sig .tc .vmem S1024x2816 .fp8e4m3) (harg13 : arg13.IsWhole) (arg14 : Memref sig .tc .vmem S1024x1 .f32) (harg14 : arg14.IsWhole) (arg15 : Memref sig .tc .vmem S1024x2816 .f32) (harg15 : arg15.IsWhole)
    (x0 : Vec F S1024x2816 .fp8e4m3) (x1 : Vec F S1024x1 .f32) (x2 : Vec F S1024x8 .f32) (x3 : Vec F S1x2816x256 .fp8e4m3) (x4 : Vec F S1x2816x256 .fp8e4m3) (x5 : Vec F S1x1x256 .f32) (x6 : Vec F S1x1x256 .f32) (x7 : Vec F S1x2816x256 .fp8e4m3) (x8 : Vec F S1x1x256 .f32)
    (y : Vec F S1024x2816 .bf16) (act : Vec F S1024x2816 .f32) (ac : Vec F S1024x2816 .fp8e4m3) (asc : Vec F S1024x1 .f32) (acc : Vec F S1024x2816 .f32)

/-- The nine input blocks, held. -/
def insHeld : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8)
/-- The output's buffer and the four scratch buffers, held. -/
def scrHeld : sProp 𝕄 :=
  iprop(owns (c : Thread nD τ) arg11 fullShare y ∗ owns (c : Thread nD τ) arg12 fullShare act ∗ owns (c : Thread nD τ) arg13 fullShare ac ∗ owns (c : Thread nD τ) arg14 fullShare asc ∗ owns (c : Thread nD τ) arg15 fullShare acc)

set_option maxHeartbeats 1000000 in
/-- The body's run in the up half: the stripe of activations is stored and nothing else changes. -/
theorem run_up (hU : condU i) (hQ : ¬condQ i) (hD : ¬condD i) (hL : ¬condL i) (E : Set ℕ) (K : PUnit → sProp 𝕄) :
    iprop(insHeld c arg2 arg3 arg4 arg5 arg6 arg7 arg8 arg9 arg10 x0 x1 x2 x3 x4 x5 x6 x7 x8 ∗ scrHeld c arg11 arg12 arg13 arg14 arg15 y act ac asc acc
        ∗ (iprop(insHeld c arg2 arg3 arg4 arg5 arg6 arg7 arg8 arg9 arg10 x0 x1 x2 x3 x4 x5 x6 x7 x8
            ∗ scrHeld c arg11 arg12 arg13 arg14 arg15 y (VecWindow.put act (k1_off1 i) S1024x256.size (k1_pay1 x0 x1 x3 x5 x4 x6)) ac asc acc) -∗ K ⟨⟩))
      ⊢ wp frame (wpE (defs₀ (F := F)) Variants.none c none) E (cc1_experts i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_experts_eq_skeleton]; unfold cc1_experts_skel
  unfold insHeld scrHeld owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨⟨%f9, %hf9, H9⟩, ⟨%f10, %hf10, H10⟩, ⟨%f11, %hf11, H11⟩, ⟨%f12, %hf12, H12⟩, ⟨%f13, %hf13, H13⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec (disch := first | sl_exact hU | sl_exact hQ | sl_exact hD | sl_exact hL)
  sl_step
  iapply Hk
  isplitl [H0 H1 H2 H3 H4 H5 H6 H7 H8]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; isplitr; · ipureintro; exact harg10.read_unread _
    iexact H8
  isplitl [H9]
  · iexists _; isplitr; swap; · iexact H9
    ipureintro
    exact harg11.read_unread _
  isplitl [H10]
  · iexists _; isplitr; swap; · iexact H10
    ipureintro
    refine (View.read_writes_cons_put _ _ _ _ _ rfl).trans ?_
    simp only [View.writes_nil, readAt_window, Memref.IsWhole.read_unread, window_S1024x2816, window_S1024x8, window_S1024x1, window_S1x2816x256, window_S1x1x256]
  isplitl [H11]
  · iexists _; isplitr; swap; · iexact H11
    ipureintro
    exact harg13.read_unread _
  isplitl [H12]
  · iexists _; isplitr; swap; · iexact H12
    ipureintro
    exact harg14.read_unread _
  iexists _; isplitr; swap; · iexact H13
  ipureintro
  exact harg15.read_unread _

set_option maxHeartbeats 1000000 in
/-- The body's run in the quantising point: the whole activations' codes and gated scales are stored, and the first down stripe is added. -/
theorem run_quant (hU : ¬condU i) (hQ : condQ i) (hD : condD i) (hL : ¬condL i) (E : Set ℕ) (K : PUnit → sProp 𝕄) :
    iprop(insHeld c arg2 arg3 arg4 arg5 arg6 arg7 arg8 arg9 arg10 x0 x1 x2 x3 x4 x5 x6 x7 x8 ∗ scrHeld c arg11 arg12 arg13 arg14 arg15 y act ac asc acc
        ∗ (iprop(insHeld c arg2 arg3 arg4 arg5 arg6 arg7 arg8 arg9 arg10 x0 x1 x2 x3 x4 x5 x6 x7 x8
            ∗ scrHeld c arg11 arg12 arg13 arg14 arg15 y act (k1_pay2 act (k1_pay8 act) k1_pay9) (k1_pay3 i (k1_pay7 act) x2) (VecWindow.put acc (k1_off2 i) S1024x256.size (k1_pay4 i (k1_pay2 act (k1_pay8 act) k1_pay9) x7 (k1_pay3 i (k1_pay7 act) x2) x8 (VecWindow.window acc (k1_off2 i) S1024x256.size (k1_off2_inb i hD))))) -∗ K ⟨⟩))
      ⊢ wp frame (wpE (defs₀ (F := F)) Variants.none c none) E (cc1_experts i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_experts_eq_skeleton]; unfold cc1_experts_skel
  simp only [k1_part1_eq_skeleton]
  unfold insHeld scrHeld owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨⟨%f9, %hf9, H9⟩, ⟨%f10, %hf10, H10⟩, ⟨%f11, %hf11, H11⟩, ⟨%f12, %hf12, H12⟩, ⟨%f13, %hf13, H13⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec (disch := first | sl_exact hU | sl_exact hQ | sl_exact hD | sl_exact hL)
  sl_step
  iapply Hk
  isplitl [H0 H1 H2 H3 H4 H5 H6 H7 H8]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; isplitr; · ipureintro; exact harg10.read_unread _
    iexact H8
  isplitl [H9]
  · iexists _; isplitr; swap; · iexact H9
    ipureintro
    exact harg11.read_unread _
  isplitl [H10]
  · iexists _; isplitr; swap; · iexact H10
    ipureintro
    exact harg12.read_unread _
  isplitl [H11]
  · iexists _; isplitr; swap; · iexact H11
    ipureintro
    refine (View.read_writes_full _ _ _ _ _).trans ?_
    unfold run_quant.sl.r run_quant.sl.r_2
    simp only [View.writes_nil, readAt_window, Memref.IsWhole.read_unread, window_S1024x2816, window_S1024x8, window_S1024x1, window_S1x2816x256, window_S1x1x256]
  isplitl [H12]
  · iexists _; isplitr; swap; · iexact H12
    ipureintro
    refine (View.read_writes_full _ _ _ _ _).trans ?_
    unfold run_quant.sl.r_1
    simp only [View.writes_nil, readAt_window, Memref.IsWhole.read_unread, window_S1024x2816, window_S1024x8, window_S1024x1, window_S1x2816x256, window_S1x1x256]
  iexists _; isplitr; swap; · iexact H13
  ipureintro
  refine (View.read_writes_cons_put _ _ _ _ _ rfl).trans ?_
  simp only [View.writes_nil, readAt_window, Memref.IsWhole.read_unread, window_S1024x2816, window_S1024x8, window_S1024x1, window_S1x2816x256, window_S1x1x256]
  have e17 : run_quant.sl.v17 c arg12 harg12 arg13 act = k1_pay2 act (k1_pay8 act) k1_pay9 := by
    unfold run_quant.sl.v17
    refine (View.readCov_full _ _ _ _ _).trans ?_
    unfold run_quant.sl.r run_quant.sl.r_2
    simp only [readAt_window, Memref.IsWhole.read_unread, window_S1024x2816]
  have e21 : run_quant.sl.v21 c i arg4 harg4 arg12 harg12 arg14 x2 act = k1_pay3 i (k1_pay7 act) x2 := by
    unfold run_quant.sl.v21
    refine (View.readCov_full _ _ _ _ _).trans ?_
    unfold run_quant.sl.r_1
    simp only [readAt_window, Memref.IsWhole.read_unread, window_S1024x2816, window_S1024x8]
  rw [e17, e21]
  unfold run_quant.sl.v30
  simp only [readAt_window, Memref.IsWhole.read_unread]

set_option maxHeartbeats 1000000 in
/-- The body's run in the rest of the down half: one stripe of the accumulator gains its product. -/
theorem run_down (hU : ¬condU i) (hQ : ¬condQ i) (hD : condD i) (hL : ¬condL i) (E : Set ℕ) (K : PUnit → sProp 𝕄) :
    iprop(insHeld c arg2 arg3 arg4 arg5 arg6 arg7 arg8 arg9 arg10 x0 x1 x2 x3 x4 x5 x6 x7 x8 ∗ scrHeld c arg11 arg12 arg13 arg14 arg15 y act ac asc acc
        ∗ (iprop(insHeld c arg2 arg3 arg4 arg5 arg6 arg7 arg8 arg9 arg10 x0 x1 x2 x3 x4 x5 x6 x7 x8
            ∗ scrHeld c arg11 arg12 arg13 arg14 arg15 y act ac asc (VecWindow.put acc (k1_off2 i) S1024x256.size (k1_pay4 i ac x7 asc x8 (VecWindow.window acc (k1_off2 i) S1024x256.size (k1_off2_inb i hD))))) -∗ K ⟨⟩))
      ⊢ wp frame (wpE (defs₀ (F := F)) Variants.none c none) E (cc1_experts i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_experts_eq_skeleton]; unfold cc1_experts_skel
  unfold insHeld scrHeld owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨⟨%f9, %hf9, H9⟩, ⟨%f10, %hf10, H10⟩, ⟨%f11, %hf11, H11⟩, ⟨%f12, %hf12, H12⟩, ⟨%f13, %hf13, H13⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec (disch := first | sl_exact hU | sl_exact hQ | sl_exact hD | sl_exact hL)
  sl_step
  iapply Hk
  isplitl [H0 H1 H2 H3 H4 H5 H6 H7 H8]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; isplitr; · ipureintro; exact harg10.read_unread _
    iexact H8
  isplitl [H9]
  · iexists _; isplitr; swap; · iexact H9
    ipureintro
    exact harg11.read_unread _
  isplitl [H10]
  · iexists _; isplitr; swap; · iexact H10
    ipureintro
    exact harg12.read_unread _
  isplitl [H11]
  · iexists _; isplitr; swap; · iexact H11
    ipureintro
    exact harg13.read_unread _
  isplitl [H12]
  · iexists _; isplitr; swap; · iexact H12
    ipureintro
    exact harg14.read_unread _
  iexists _; isplitr; swap; · iexact H13
  ipureintro
  refine (View.read_writes_cons_put _ _ _ _ _ rfl).trans ?_
  simp only [View.writes_nil, readAt_window, Memref.IsWhole.read_unread, window_S1024x2816, window_S1024x8, window_S1024x1, window_S1x2816x256, window_S1x1x256]

set_option maxHeartbeats 1000000 in
/-- The body's run in the last point: a down stripe, then the accumulator rounded into the output. -/
theorem run_last (hU : ¬condU i) (hQ : ¬condQ i) (hD : condD i) (hL : condL i) (E : Set ℕ) (K : PUnit → sProp 𝕄) :
    iprop(insHeld c arg2 arg3 arg4 arg5 arg6 arg7 arg8 arg9 arg10 x0 x1 x2 x3 x4 x5 x6 x7 x8 ∗ scrHeld c arg11 arg12 arg13 arg14 arg15 y act ac asc acc
        ∗ (iprop(insHeld c arg2 arg3 arg4 arg5 arg6 arg7 arg8 arg9 arg10 x0 x1 x2 x3 x4 x5 x6 x7 x8
            ∗ scrHeld c arg11 arg12 arg13 arg14 arg15 (k1_pay5 (VecWindow.put acc (k1_off2 i) S1024x256.size (k1_pay4 i ac x7 asc x8 (VecWindow.window acc (k1_off2 i) S1024x256.size (k1_off2_inb i hD))))) act ac asc (VecWindow.put acc (k1_off2 i) S1024x256.size (k1_pay4 i ac x7 asc x8 (VecWindow.window acc (k1_off2 i) S1024x256.size (k1_off2_inb i hD))))) -∗ K ⟨⟩))
      ⊢ wp frame (wpE (defs₀ (F := F)) Variants.none c none) E (cc1_experts i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_experts_eq_skeleton]; unfold cc1_experts_skel
  unfold insHeld scrHeld owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨⟨%f9, %hf9, H9⟩, ⟨%f10, %hf10, H10⟩, ⟨%f11, %hf11, H11⟩, ⟨%f12, %hf12, H12⟩, ⟨%f13, %hf13, H13⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  letI : ClosedOff (k1_off2 i) := ⟨![0, 256 * (i 1).val - 2816], off2_eq i hD⟩
  sl_exec (disch := first | sl_exact hU | sl_exact hQ | sl_exact hD | sl_exact hL)
  sl_step
  iapply Hk
  isplitl [H0 H1 H2 H3 H4 H5 H6 H7 H8]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; isplitr; · ipureintro; exact harg10.read_unread _
    iexact H8
  isplitl [H9]
  · iexists _; isplitr; swap; · iexact H9
    ipureintro
    refine (View.read_writes_full _ _ _ _ _).trans ?_
    unfold run_last.sl.v14 run_last.sl.H13_1
    simp only [View.writes_nil, readAt_window, Memref.IsWhole.read_unread, window_S1024x2816, window_S1024x8, window_S1024x1, window_S1x2816x256, window_S1x1x256]
    refine congrArg k1_pay5 ((View.read_writes_cons_put _ _ _ _ _ rfl).trans ?_)
    simp only [View.writes_nil, readAt_window, Memref.IsWhole.read_unread, window_S1024x2816, window_S1024x8, window_S1024x1, window_S1x2816x256, window_S1x1x256]
  isplitl [H10]
  · iexists _; isplitr; swap; · iexact H10
    ipureintro
    exact harg12.read_unread _
  isplitl [H11]
  · iexists _; isplitr; swap; · iexact H11
    ipureintro
    exact harg13.read_unread _
  isplitl [H12]
  · iexists _; isplitr; swap; · iexact H12
    ipureintro
    exact harg14.read_unread _
  iexists _; isplitr; swap; · iexact H13
  ipureintro
  refine (View.read_writes_cons_put _ _ _ _ _ rfl).trans ?_
  simp only [View.writes_nil, readAt_window, Memref.IsWhole.read_unread, window_S1024x2816, window_S1024x8, window_S1024x1, window_S1x2816x256, window_S1x1x256]

end Runs

end Cert.KernelIdeal.Gen

end
-- ==== Proof.KernelIdeal.Experts.lean ====
/- The experts region: the values the scratch carries from point to point (an expert's activations, their codes and
   gated scales, the accumulator after each expert), the invariant that says how far they are built before a point,
   and the body's obligation at every point. -/
module

public import proofs.«01_k».proof.Proof.KernelIdeal.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Stripes of 256 columns -/

/-- An index's place within its stripe. -/
def loc (y : S1024x2816.Idx) : S1024x256.Idx := fun a => match a with
  | ⟨0, _⟩ => ⟨(y 0).val, (y 0).isLt⟩
  | ⟨1, _⟩ => ⟨(y 1).val % 256, Nat.mod_lt _ (by decide)⟩

/-- The index at a place of stripe `j`. -/
def glob (j : ℕ) (z : S1024x256.Idx) : S1024x2816.Idx := fun a => match a with
  | ⟨0, _⟩ => ⟨(z 0).val, (z 0).isLt⟩
  | ⟨1, _⟩ => ⟨(256 * j + (z 1).val) % 2816, Nat.mod_lt _ (by decide)⟩

/-- Stripe `j` of a vector. -/
def stripe {α : Type} (x : S1024x2816.Idx → α) (j : ℕ) : S1024x256.Idx → α := fun z => x (glob j z)

theorem y1_lt (y : S1024x2816.Idx) : (y 1).val < 2816 := (y 1).isLt
theorem y0_lt (y : S1024x2816.Idx) : (y 0).val < 1024 := (y 0).isLt
theorem z1_lt (z : S1024x256.Idx) : (z 1).val < 256 := (z 1).isLt

theorem glob_val1 (j : ℕ) (hj : j < 11) (z : S1024x256.Idx) : (glob j z 1).val = 256 * j + (z 1).val := by
  have := z1_lt z
  show (256 * j + (z 1).val) % 2816 = _
  exact Nat.mod_eq_of_lt (by omega)

/-- A vector with a stripe put over it reads the stripe within it and the vector elsewhere. -/
theorem put_stripe {α : Type} (x : S1024x2816.Idx → α) (off : Fin 2 → ℕ) (j : ℕ) (hoff : off = ![0, 256 * j])
    (w : S1024x256.Idx → α) (y : S1024x2816.Idx) :
    VecWindow.put x off S1024x256.size w y = if (y 1).val / 256 = j then w (loc y) else x y := by
  subst hoff
  have h0 := y0_lt y
  unfold VecWindow.put
  by_cases hy : (y 1).val / 256 = j
  · have h : ∀ a : Fin 2, (![0, 256 * j] : Fin 2 → ℕ) a ≤ (y a).val ∧ (y a).val < (![0, 256 * j] : Fin 2 → ℕ) a + S1024x256.size a := by
      intro a
      match a with
      | ⟨0, _⟩ => exact ⟨Nat.zero_le _, by show (y 0).val < 0 + 1024; omega⟩
      | ⟨1, _⟩ => exact ⟨by show 256 * j ≤ (y 1).val; omega, by show (y 1).val < 256 * j + 256; omega⟩
    rw [dif_pos h, if_pos hy]
    exact congrArg w (funext fun a => by
      match a with
      | ⟨0, _⟩ => exact Fin.ext (by show (y 0).val - 0 = (y 0).val; omega)
      | ⟨1, _⟩ => exact Fin.ext (by show (y 1).val - 256 * j = (y 1).val % 256; omega))
  · rw [dif_neg, if_neg hy]
    intro h
    have h1 : 256 * j ≤ (y 1).val ∧ (y 1).val < 256 * j + 256 := h 1
    omega

/-- The window at a stripe's offsets is the stripe. -/
theorem window_stripe {α : Type} (x : S1024x2816.Idx → α) (off : Fin 2 → ℕ) (j : ℕ) (hoff : off = ![0, 256 * j]) (hj : j < 11)
    (inb : ∀ a : Fin 2, off a + S1024x256.size a ≤ S1024x2816.size a) :
    VecWindow.window (s := S1024x2816) x off S1024x256.size inb = stripe x j := by
  subst hoff
  funext z
  exact congrArg x (funext fun a => by
    match a with
    | ⟨0, _⟩ => exact Fin.ext (by show 0 + 1 * (z 0).val = (z 0).val; omega)
    | ⟨1, _⟩ =>
      have h1 := glob_val1 j hj z
      exact Fin.ext (by show 256 * j + 1 * (z 1).val = (glob j z 1).val; omega))

/-- At the first expert the down stripe does not read the accumulator. -/
theorem pay4_first (i : grid1.Coords) (h : (i 0).val = 0) (ac : Vec F S1024x2816 .fp8e4m3) (x7 : Vec F S1x2816x256 .fp8e4m3)
    (asc : Vec F S1024x1 .f32) (x8 : Vec F S1x1x256 .f32) (v v' : Vec F S1024x256 .f32) :
    k1_pay4 i ac x7 asc x8 v = k1_pay4 i ac x7 asc x8 v' := by
  unfold k1_pay4
  rw [h]
  rfl

section Regions
variable (V : (c : Dev nD) → (b : Ref sig .tc) → Buf (Elt F) ((c : Thread nD τ).loc b))

/-! ## What the scratch holds -/

/-- The grid point at position `n`. -/
def pt (n : ℕ) : Fin cfg1.N := ⟨n % 176, lt_of_lt_of_eq (Nat.mod_lt _ (by decide)) (show 176 = cfg1.N from N_1.symm)⟩

/-- The stripe of activations the point at position `n` computes. -/
def upBlk (c : Dev nD) (n : ℕ) : Vec F S1024x256 .f32 :=
  k1_pay1 (iblk1 V c 0 (pt n)) (iblk1 V c 1 (pt n)) (iblk1 V c 3 (pt n)) (iblk1 V c 5 (pt n)) (iblk1 V c 4 (pt n)) (iblk1 V c 6 (pt n))

/-- Expert `e`'s activations. -/
def actE (c : Dev nD) (e : ℕ) : Vec F S1024x2816 .f32 := fun y => upBlk V c (22 * e + (y 1).val / 256) (loc y)

/-- Their codes. -/
def acE (c : Dev nD) (e : ℕ) : Vec F S1024x2816 .fp8e4m3 := k1_pay2 (actE V c e) (k1_pay8 (actE V c e)) k1_pay9

/-- Their scales, times the expert's gates. -/
def asE (c : Dev nD) (e : ℕ) : Vec F S1024x1 .f32 :=
  k1_pay3 (grid1.coords (pt (22 * e + 11))) (k1_pay7 (actE V c e)) (iblk1 V c 2 (pt (22 * e + 11)))

/-- The accumulator's stripe after the down point of expert `e` at position `n`. -/
def downBlk (c : Dev nD) (e n : ℕ) (prev : Vec F S1024x256 .f32) : Vec F S1024x256 .f32 :=
  k1_pay4 (grid1.coords (pt n)) (acE V c e) (iblk1 V c 7 (pt n)) (asE V c e) (iblk1 V c 8 (pt n)) prev

/-- The accumulator after `e` experts. -/
def accE (c : Dev nD) : ℕ → Vec F S1024x2816 .f32
  | 0 => fun _ => Scalar.ofBits .f32 0#32
  | e + 1 => fun y => downBlk V c e (22 * e + 11 + (y 1).val / 256) (stripe (accE c e) ((y 1).val / 256)) (loc y)

/-- How far the scratch is built before the point at position `n`. -/
def Inv (c : Dev nD) (n : ℕ) (act : Vec F S1024x2816 .f32) (ac : Vec F S1024x2816 .fp8e4m3) (asc : Vec F S1024x1 .f32)
    (acc : Vec F S1024x2816 .f32) : Prop :=
  (∀ y : S1024x2816.Idx, (y 1).val < 256 * (n % 22) → act y = actE V c (n / 22) y)
  ∧ (11 < n % 22 → ac = acE V c (n / 22) ∧ asc = asE V c (n / 22))
  ∧ (∀ y : S1024x2816.Idx, (y 1).val + 2816 < 256 * (n % 22) → acc y = accE V c (n / 22 + 1) y)
  ∧ (∀ y : S1024x2816.Idx, 256 * (n % 22) ≤ (y 1).val + 2816 → 0 < n / 22 → acc y = accE V c (n / 22) y)

theorem Inv_zero (c : Dev nD) (act ac asc acc) : Inv V c 0 act ac asc acc :=
  ⟨fun y h => absurd h (Nat.not_lt_zero _), fun h => absurd h (by decide), fun y h => absurd h (by omega), fun y _ h => absurd h (by decide)⟩

theorem pt_val (t : Fin cfg1.N) : pt t.val = t := Fin.ext (Nat.mod_eq_of_lt (lt_of_lt_of_eq t.isLt (show cfg1.N = 176 from N_1)))

/-- An up point carries the invariant on. -/
theorem Inv_up (c : Dev nD) (t : Fin cfg1.N) (h : t.val % 22 < 11) (act ac asc acc) (H : Inv V c t.val act ac asc acc) :
    Inv V c (t.val + 1) (VecWindow.put act (k1_off1 (grid1.coords t)) S1024x256.size
      (k1_pay1 (iblk1 V c 0 t) (iblk1 V c 1 t) (iblk1 V c 3 t) (iblk1 V c 5 t) (iblk1 V c 4 t) (iblk1 V c 6 t))) ac asc acc := by
  obtain ⟨h1, h2, h3, h4⟩ := H
  have hoff : k1_off1 (grid1.coords t) = ![0, 256 * (t.val % 22)] := by
    rw [k1_off1_eq, coord1, Nat.div_one]
  have hq : (t.val + 1) / 22 = t.val / 22 := by omega
  have hr : (t.val + 1) % 22 = t.val % 22 + 1 := by omega
  unfold Inv
  rw [hq, hr]
  refine ⟨fun y hy => ?_, fun h => absurd h (by omega), fun y hy => absurd hy (by omega), fun y hy he => h4 y (by omega) he⟩
  rw [put_stripe _ _ _ hoff]
  split
  · rename_i hj
    unfold actE upBlk
    rw [hj, show 22 * (t.val / 22) + t.val % 22 = t.val by omega, pt_val]
  · exact h1 y (by omega)

/-- A down stripe put over the accumulator carries its part of the invariant on. -/
theorem acc_down (c : Dev nD) (t : Fin cfg1.N) (h : 11 ≤ t.val % 22) (acc : Vec F S1024x2816 .f32)
    (h3 : ∀ y : S1024x2816.Idx, (y 1).val + 2816 < 256 * (t.val % 22) → acc y = accE V c (t.val / 22 + 1) y)
    (h4 : ∀ y : S1024x2816.Idx, 256 * (t.val % 22) ≤ (y 1).val + 2816 → 0 < t.val / 22 → acc y = accE V c (t.val / 22) y)
    (inb) (acc' : Vec F S1024x2816 .f32)
    (hacc : acc' = VecWindow.put acc (k1_off2 (grid1.coords t)) S1024x256.size (k1_pay4 (grid1.coords t) (acE V c (t.val / 22)) (iblk1 V c 7 t)
      (asE V c (t.val / 22)) (iblk1 V c 8 t) (VecWindow.window acc (k1_off2 (grid1.coords t)) S1024x256.size inb))) :
    (∀ y : S1024x2816.Idx, (y 1).val + 2816 < 256 * (t.val % 22 + 1) → acc' y = accE V c (t.val / 22 + 1) y)
    ∧ (∀ y : S1024x2816.Idx, 256 * (t.val % 22 + 1) ≤ (y 1).val + 2816 → 0 < t.val / 22 → acc' y = accE V c (t.val / 22) y) := by
  have ht : t.val < 176 := lt_of_lt_of_eq t.isLt (show cfg1.N = 176 from N_1)
  have hoff : k1_off2 (grid1.coords t) = ![0, 256 * (t.val % 22 - 11)] := by
    rw [off2_eq _ ((hcondD t).mpr h), coord1, Nat.div_one, show 256 * (t.val % 22) - 2816 = 256 * (t.val % 22 - 11) by omega]
  subst hacc
  rw [window_stripe _ _ _ hoff (by omega)]
  refine ⟨fun y hy => ?_, fun y hy he => ?_⟩
  · rw [put_stripe _ _ _ hoff]
    split
    · rename_i hj
      rw [accE]
      dsimp only
      rw [hj]
      unfold downBlk
      rw [show 22 * (t.val / 22) + 11 + (t.val % 22 - 11) = t.val by omega, pt_val]
      by_cases he : 0 < t.val / 22
      · rw [show stripe acc (t.val % 22 - 11) = stripe (accE V c (t.val / 22)) (t.val % 22 - 11) from
          funext fun z => h4 _ (by rw [glob_val1 _ (by omega)]; omega) he]
      · exact congrFun (pay4_first _ (by rw [coord0]; omega) _ _ _ _ _ _) _
    · exact h3 y (by omega)
  · rw [put_stripe _ _ _ hoff, if_neg (by omega)]
    exact h4 y (by omega) he

/-- The next position's invariant from its parts, whichever way the step counter goes. -/
theorem Inv_next (c : Dev nD) (n : ℕ) (h : 11 ≤ n % 22) (act ac asc acc)
    (h1 : ∀ y : S1024x2816.Idx, act y = actE V c (n / 22) y) (h2 : ac = acE V c (n / 22) ∧ asc = asE V c (n / 22))
    (h34 : (∀ y : S1024x2816.Idx, (y 1).val + 2816 < 256 * (n % 22 + 1) → acc y = accE V c (n / 22 + 1) y)
      ∧ (∀ y : S1024x2816.Idx, 256 * (n % 22 + 1) ≤ (y 1).val + 2816 → 0 < n / 22 → acc y = accE V c (n / 22) y)) :
    Inv V c (n + 1) act ac asc acc := by
  unfold Inv
  by_cases hl : n % 22 = 21
  · have hq : (n + 1) / 22 = n / 22 + 1 := by omega
    have hr : (n + 1) % 22 = 0 := by omega
    rw [hq, hr]
    exact ⟨fun y h => absurd h (Nat.not_lt_zero _), fun h => absurd h (by decide), fun y h => absurd h (by omega),
      fun y _ _ => h34.1 y (by have := y1_lt y; omega)⟩
  · have hq : (n + 1) / 22 = n / 22 := by omega
    have hr : (n + 1) % 22 = n % 22 + 1 := by omega
    rw [hq, hr]
    exact ⟨fun y _ => h1 y, fun _ => h2, h34.1, h34.2⟩

/-- The quantising point carries the invariant on. -/
theorem Inv_quant (c : Dev nD) (t : Fin cfg1.N) (h : t.val % 22 = 11) (act ac asc acc) (inb) (H : Inv V c t.val act ac asc acc) :
    Inv V c (t.val + 1) act (k1_pay2 act (k1_pay8 act) k1_pay9) (k1_pay3 (grid1.coords t) (k1_pay7 act) (iblk1 V c 2 t))
      (VecWindow.put acc (k1_off2 (grid1.coords t)) S1024x256.size (k1_pay4 (grid1.coords t) (k1_pay2 act (k1_pay8 act) k1_pay9) (iblk1 V c 7 t)
        (k1_pay3 (grid1.coords t) (k1_pay7 act) (iblk1 V c 2 t)) (iblk1 V c 8 t)
        (VecWindow.window acc (k1_off2 (grid1.coords t)) S1024x256.size inb))) := by
  obtain ⟨h1, h2, h3, h4⟩ := H
  have hact : act = actE V c (t.val / 22) := funext fun y => h1 y (by have := y1_lt y; omega)
  have hac : k1_pay2 act (k1_pay8 act) k1_pay9 = acE V c (t.val / 22) := by rw [hact]; rfl
  have has : k1_pay3 (grid1.coords t) (k1_pay7 act) (iblk1 V c 2 t) = asE V c (t.val / 22) := by
    unfold asE
    rw [hact, show 22 * (t.val / 22) + 11 = t.val by omega, pt_val]
  rw [hac, has]
  exact Inv_next V c _ (by omega) _ _ _ _ (fun y => congrFun hact y) ⟨rfl, rfl⟩ (acc_down V c t (by omega) acc h3 h4 inb _ rfl)

/-- A later down point carries the invariant on. -/
theorem Inv_down (c : Dev nD) (t : Fin cfg1.N) (h : 11 < t.val % 22) (act ac asc acc) (inb) (H : Inv V c t.val act ac asc acc) :
    Inv V c (t.val + 1) act ac asc
      (VecWindow.put acc (k1_off2 (grid1.coords t)) S1024x256.size (k1_pay4 (grid1.coords t) ac (iblk1 V c 7 t)
        asc (iblk1 V c 8 t) (VecWindow.window acc (k1_off2 (grid1.coords t)) S1024x256.size inb))) := by
  obtain ⟨h1, h2, h3, h4⟩ := H
  obtain ⟨rfl, rfl⟩ := h2 h
  exact Inv_next V c _ (by omega) _ _ _ _ (fun y => h1 y (by have := y1_lt y; omega)) ⟨rfl, rfl⟩ (acc_down V c t (by omega) acc h3 h4 inb _ rfl)

/-- After the last point the accumulator is that of all eight experts. -/
theorem Inv_last (c : Dev nD) (act ac asc acc) (H : Inv V c 176 act ac asc acc) : acc = accE V c 8 :=
  funext fun y => H.2.2.2 y (by omega) (by decide)

/-! ## Where the windows are idle -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- Window 7 is never idle (an input). -/
theorem liveAt1_7 : ∀ t : Fin cfg1.N, cfg1.idle 7 (grid1.coords t) = false := fun _ => rfl
/-- Window 8 is never idle (an input). -/
theorem liveAt1_8 : ∀ t : Fin cfg1.N, cfg1.idle 8 (grid1.coords t) = false := fun _ => rfl
/-- The output window is idle before the last point … -/
theorem idleAt1_9 : ∀ t : Fin cfg1.N, ¬condL (grid1.coords t) → cfg1.idle 9 (grid1.coords t) = true := by decide +kernel
/-- … where it is not written back … -/
theorem noFlush1_9 : ∀ t : Fin cfg1.N, ¬condL (grid1.coords t) → (cfg1.win 9).flush t = false := by decide +kernel
/-- … and live at it. -/
theorem liveAt1_9 : ∀ t : Fin cfg1.N, condL (grid1.coords t) → cfg1.idle 9 (grid1.coords t) = false := by decide +kernel

abbrev ms1_0 (t : Fin cfg1.N) : Memref sig .tc .vmem S1024x2816 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x8 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2816x256 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2816x256 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2816x256 .fp8e4m3 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1024x2816 .bf16 := win1_9.stage (cfg1.slots t 9)
abbrev hs1_9 (t : Fin cfg1.N) : (ms1_9 t).IsWhole := hstage1_9 ((cfg1.slots t 9).cast nbuf1_9)
/-- The scratch operands: whole scoped buffers of the kernel's own, passed beside the windows. -/
abbrev scM1_0 : Memref sig .tc .vmem S1024x2816 .f32 := Memref.whole cc1_scratch0
abbrev scM1_1 : Memref sig .tc .vmem S1024x2816 .fp8e4m3 := Memref.whole cc1_scratch1
abbrev scM1_2 : Memref sig .tc .vmem S1024x1 .f32 := Memref.whole cc1_scratch2
abbrev scM1_3 : Memref sig .tc .vmem S1024x2816 .f32 := Memref.whole cc1_scratch3

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

/-! ## The pipeline's proof data -/

/-- What the region holds before position `n`: the router's staging buffers at anything, the scratch built as far as
    `Inv` says, and the generator register. -/
def PhiS (c : Dev nD) (n : ℕ) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f))
    ∗ (∃ act ac asc acc, ⌜Inv V c n act ac asc acc⌝ ∗ owns (c : Thread nD τ) scM1_0 fullShare act ∗ owns (c : Thread nD τ) scM1_1 fullShare ac ∗ owns (c : Thread nD τ) scM1_2 fullShare asc ∗ owns (c : Thread nD τ) scM1_3 fullShare acc)
    ∗ (∃ r, prngReg c r))

/-- At the region's entry the scratch may hold anything. -/
theorem PhiS_of_PhiA (c : Dev nD) : (Pipeline.ΦA spec1 c : sProp 𝕄) ⊢ PhiS V c 0 := by
  rw [PhiA1_eq]; unfold PhiS
  iintro ⟨⟨HR0, HR1, HR2, HR3, HR4, ⟨%d0, HS0⟩, ⟨%d1, HS1⟩, ⟨%d2, HS2⟩, ⟨%d3, HS3⟩⟩, Hg⟩
  isplitl [HR0 HR1 HR2 HR3 HR4]
  · isplitl [HR0]; · iexact HR0
    isplitl [HR1]; · iexact HR1
    isplitl [HR2]; · iexact HR2
    isplitl [HR3]; · iexact HR3
    iexact HR4
  isplitl [HS0 HS1 HS2 HS3]
  · iexists d0, d1, d2, d3
    isplitr; · ipureintro; exact Inv_zero V c d0 d1 d2 d3
    isplitl [HS0]; · iexact HS0
    isplitl [HS1]; · iexact HS1
    isplitl [HS2]; · iexact HS2
    iexact HS3
  iexact Hg

/-- At its exit what it holds is forgotten. -/
theorem PhiA_of_PhiS (c : Dev nD) (n : ℕ) : (PhiS V c n : sProp 𝕄) ⊢ Pipeline.ΦA spec1 c := by
  rw [PhiA1_eq]; unfold PhiS
  iintro ⟨⟨HR0, HR1, HR2, HR3, HR4⟩, ⟨%d0, %d1, %d2, %d3, -, HS0, HS1, HS2, HS3⟩, Hg⟩
  isplitl [HR0 HR1 HR2 HR3 HR4 HS0 HS1 HS2 HS3]
  · isplitl [HR0]; · iexact HR0
    isplitl [HR1]; · iexact HR1
    isplitl [HR2]; · iexact HR2
    isplitl [HR3]; · iexact HR3
    isplitl [HR4]; · iexact HR4
    isplitl [HS0]; · iexists d0; iexact HS0
    isplitl [HS1]; · iexists d1; iexact HS1
    isplitl [HS2]; · iexists d2; iexact HS2
    iexists d3; iexact HS3
  iexact Hg

/-- The proof data of pipeline 1 on core `c`: the arrays as the region finds them (`V`); after the body at
    point `t` each input's buffer at its block, the output's at the rounded accumulator of all experts (written at the last
    point only); the invariant `PhiS`; nothing owed; each input's share of its array. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => k1_pay5 (accE V c 8)
  Φ t := PhiS V c t.val
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = k1_pay5 (accE V c 8) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

/-- The invariant at a point's start … -/
theorem at_castSucc {α : Sort _} {N : ℕ} (S : ℕ → α) (t : Fin N) : S t.castSucc.val = S t.val := rfl
/-- … and at its end. -/
theorem at_succ {α : Sort _} {N : ℕ} (S : ℕ → α) (t : Fin N) : S t.succ.val = S (t.val + 1) := rfl
theorem Phi_castSucc (c : Dev nD) (t : Fin cfg1.N) : (dat1 V c).Φ t.castSucc = PhiS V c t.val := by
  dsimp only [dat1]; exact at_castSucc (PhiS V c) t
theorem Phi_succ (c : Dev nD) (t : Fin cfg1.N) : (dat1 V c).Φ t.succ = PhiS V c (t.val + 1) := by
  dsimp only [dat1]; exact at_succ (PhiS V c) t

set_option maxHeartbeats 2400000 in
/-- The body at any point: the inputs' memrefs hold their blocks; the point's step says which of the four cases it is in;
    the case's run applies, and the invariant is carried on. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [Phi_castSucc, Phi_succ, show (dat1 V c).owesAt () t.succ = (dat1 V c).owesAt () t.castSucc from rfl]
  have hN : t.val < 176 := lt_of_lt_of_eq t.isLt (show cfg1.N = 176 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t], after1_5]
  rw [show (dat1 V c).leavesExact 6 t = owns (c : Thread nD τ) (ms1_6 t) fullShare ((dat1 V c).after 6 t) from by
      unfold Dat.leavesExact; rw [liveAt1_6 t], after1_6]
  rw [show (dat1 V c).leavesExact 7 t = owns (c : Thread nD τ) (ms1_7 t) fullShare ((dat1 V c).after 7 t) from by
      unfold Dat.leavesExact; rw [liveAt1_7 t], after1_7]
  rw [show (dat1 V c).leavesExact 8 t = owns (c : Thread nD τ) (ms1_8 t) fullShare ((dat1 V c).after 8 t) from by
      unfold Dat.leavesExact; rw [liveAt1_8 t], after1_8]
  unfold PhiS
  by_cases hu : t.val % 22 < 11
  · rw [Dat.leavesExact_idle (dat1 V c) 9 t (idleAt1_9 t (fun h => absurd ((hcondL t).mp h) (by omega))) (noFlush1_9 t (fun h => absurd ((hcondL t).mp h) (by omega)))]
    iintro ⟨⟨HR, ⟨%act, %ac, %asc, %acc, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hI' := Inv_up V c t hu act ac asc acc hI
    iapply (run_up c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) _ act ac asc acc ((hcondU t).mpr hu) (fun h => absurd ((hcondQ t).mp h) (by omega)) (fun h => absurd ((hcondD t).mp h) (by omega)) (fun h => absurd ((hcondL t).mp h) (by omega)) Set.univ _)
    unfold insHeld scrHeld
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9 HS0 HS1 HS2 HS3]
    · isplitl [H9]; · iexact H9
      isplitl [HS0]; · iexact HS0
      isplitl [HS1]; · iexact HS1
      isplitl [HS2]; · iexact HS2
      iexact HS3
    iintro ⟨⟨H0, H1, H2, H3, H4, H5, H6, H7, H8⟩, ⟨H9, HS0, HS1, HS2, HS3⟩⟩
    isplitl [HR HS0 HS1 HS2 HS3 Hg]
    · isplitl [HR]; · iexact HR
      isplitl [HS0 HS1 HS2 HS3]
      · iexists _, _, _, _
        isplitr; · ipureintro; exact hI'
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  by_cases hq : t.val % 22 = 11
  · rw [Dat.leavesExact_idle (dat1 V c) 9 t (idleAt1_9 t (fun h => absurd ((hcondL t).mp h) (by omega))) (noFlush1_9 t (fun h => absurd ((hcondL t).mp h) (by omega)))]
    iintro ⟨⟨HR, ⟨%act, %ac, %asc, %acc, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hI' := Inv_quant V c t hq act ac asc acc (k1_off2_inb (grid1.coords t) ((hcondD t).mpr (by omega))) hI
    iapply (run_quant c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) _ act ac asc acc (fun h => absurd ((hcondU t).mp h) (by omega)) ((hcondQ t).mpr hq) ((hcondD t).mpr (by omega)) (fun h => absurd ((hcondL t).mp h) (by omega)) Set.univ _)
    unfold insHeld scrHeld
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9 HS0 HS1 HS2 HS3]
    · isplitl [H9]; · iexact H9
      isplitl [HS0]; · iexact HS0
      isplitl [HS1]; · iexact HS1
      isplitl [HS2]; · iexact HS2
      iexact HS3
    iintro ⟨⟨H0, H1, H2, H3, H4, H5, H6, H7, H8⟩, ⟨H9, HS0, HS1, HS2, HS3⟩⟩
    isplitl [HR HS0 HS1 HS2 HS3 Hg]
    · isplitl [HR]; · iexact HR
      isplitl [HS0 HS1 HS2 HS3]
      · iexists _, _, _, _
        isplitr; · ipureintro; exact hI'
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  by_cases hl : t.val = 175
  · rw [show (dat1 V c).leavesExact 9 t = owns (c : Thread nD τ) (ms1_9 t) fullShare ((dat1 V c).after 9 t) from by
      unfold Dat.leavesExact; rw [liveAt1_9 t ((hcondL t).mpr hl)], after1_9]
    iintro ⟨⟨HR, ⟨%act, %ac, %asc, %acc, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hI' := Inv_down V c t (by omega) act ac asc acc (k1_off2_inb (grid1.coords t) ((hcondD t).mpr (by omega))) hI
    have hI'' := hI'
    rw [show t.val + 1 = 176 by omega] at hI''
    iapply (run_last c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) _ act ac asc acc (fun h => absurd ((hcondU t).mp h) (by omega)) (fun h => absurd ((hcondQ t).mp h) (by omega)) ((hcondD t).mpr (by omega)) ((hcondL t).mpr hl) Set.univ _)
    unfold insHeld scrHeld
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9 HS0 HS1 HS2 HS3]
    · isplitl [H9]; · iexact H9
      isplitl [HS0]; · iexact HS0
      isplitl [HS1]; · iexact HS1
      isplitl [HS2]; · iexact HS2
      iexact HS3
    iintro ⟨⟨H0, H1, H2, H3, H4, H5, H6, H7, H8⟩, ⟨H9, HS0, HS1, HS2, HS3⟩⟩
    isplitl [HR HS0 HS1 HS2 HS3 Hg]
    · isplitl [HR]; · iexact HR
      isplitl [HS0 HS1 HS2 HS3]
      · iexists _, _, _, _
        isplitr; · ipureintro; exact hI'
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    rw [Inv_last V c _ _ _ _ hI'']; iexact H9
  · rw [Dat.leavesExact_idle (dat1 V c) 9 t (idleAt1_9 t (fun h => absurd ((hcondL t).mp h) (by omega))) (noFlush1_9 t (fun h => absurd ((hcondL t).mp h) (by omega)))]
    iintro ⟨⟨HR, ⟨%act, %ac, %asc, %acc, %hI, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    have hI' := Inv_down V c t (by omega) act ac asc acc (k1_off2_inb (grid1.coords t) ((hcondD t).mpr (by omega))) hI
    iapply (run_down c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) scM1_2 (Memref.isWhole_whole _) scM1_3 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t) _ act ac asc acc (fun h => absurd ((hcondU t).mp h) (by omega)) (fun h => absurd ((hcondQ t).mp h) (by omega)) ((hcondD t).mpr (by omega)) (fun h => absurd ((hcondL t).mp h) (by omega)) Set.univ _)
    unfold insHeld scrHeld
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9 HS0 HS1 HS2 HS3]
    · isplitl [H9]; · iexact H9
      isplitl [HS0]; · iexact HS0
      isplitl [HS1]; · iexact HS1
      isplitl [HS2]; · iexact HS2
      iexact HS3
    iintro ⟨⟨H0, H1, H2, H3, H4, H5, H6, H7, H8⟩, ⟨H9, HS0, HS1, HS2, HS3⟩⟩
    isplitl [HR HS0 HS1 HS2 HS3 Hg]
    · isplitl [HR]; · iexact HR
      isplitl [HS0 HS1 HS2 HS3]
      · iexists _, _, _, _
        isplitr; · ipureintro; exact hI'
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.KernelIdeal.Run.lean ====
/- The run of the whole program: its segments from the launch to the return, what every unscoped buffer holds at the
   end, and the frame read off it. -/
module

public import proofs.«01_k».proof.Proof.KernelIdeal.Experts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3, main_v4]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W3`, left at `W4`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (show Pipeline.ΦA spec1 c ⊢ (pdats m ρ 1 c).Φ 0 from PhiS_of_PhiA (V3 m ρ) c)
    unfold Pipeline.ΦA
    iintro ⟨Hp, -, Hr⟩
    isplitl [Hr]; · iexact Hr
    iexact Hp
  hout c := by
    rw [Pipeline.ownSems0_none]
    refine BI.BIBase.Entails.trans (show (pdats m ρ 1 c).Φ (Fin.last _) ⊢ Pipeline.ΦA spec1 c from PhiA_of_PhiS (V3 m ρ) c cfg1.N) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run: on the compiled mesh, from any memory with zero counters, every weakly fair execution of @main on the
    TensorCores terminates, nothing faulting, and in every final state each unscoped buffer holds what the last boundary
    says and every semaphore counter of the machine is at zero. -/
theorem run : θ_run defs (onTc (τ := τ) (main (F := F))) ⟨m, fun _ => 0, ρ⟩ (fun r => (∀ c : Dev nD,
      ∀ b ∈ Pipeline.ucRefs τ sig, r.2.mem ((c : Thread nD τ).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: every final state has the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c)⟩, h.2⟩) (run m ρ)

end Cert.KernelIdeal.Gen

end
-- ==== Proof.Value.Scalar.lean ====
/- The scalar facts the value proof rests on: the word whose exponent field holds `k + 127` denotes `2^k`, and the
   exponent found by the search over `[-126, 126]` stays in that range, so that both ways of building a power of two from
   it agree. -/
module

public import Idealize.ShloMosaic.Lib.Pointwise

@[expose] public section

set_option maxRecDepth 16384

noncomputable section

namespace Cert.Moe

open Idealize.ShloMosaic

/-- The power of two as the kernel builds it: the word `w + 127` shifted into the exponent field. -/
abbrev powBits (w : BitVec 32) : EReal := Ideal.ofBits .f32 (IntOp.shli ArithUnit.vector (IntOp.addi w 127#32) 23#32)

/-- The power of two as the reference takes it: `exp2` of the integer. -/
abbrev powExp (w : BitVec 32) : EReal :=
  FloatOps.exp2 (F := Ideal) (φ := .f32) (FloatOps.sitofp (F := Ideal) .f32 w)

theorem fields : ∀ n : Fin 254, 1 ≤ n.val →
    ((BitVec.ofNat 32 n.val <<< 23).extractLsb' 31 1 = 0#1 ∧ ((BitVec.ofNat 32 n.val <<< 23).extractLsb' 23 8).toNat = n.val
      ∧ ((BitVec.ofNat 32 n.val <<< 23).extractLsb' 0 23).toNat = 0) := by
  decide

theorem ieee_normal (b : BitVec 32) (n : ℕ) (h1 : 1 ≤ n) (h2 : n < 254) (ha : b.extractLsb' 31 1 = 0#1)
    (hb : (b.extractLsb' 23 8).toNat = n) (hc : (b.extractLsb' 0 23).toNat = 0) :
    Ideal.ieee 8 23 b = (((2 : ℝ) ^ ((n : ℤ) - 127) : ℝ) : EReal) := by
  have h255 : (2 : ℕ) ^ 8 - 1 = 255 := by norm_num
  unfold Ideal.ieee
  simp only [Nat.reduceAdd, ha, hb, hc, h255]
  rw [if_neg (by omega), if_neg (by omega)]
  congr 1
  have hf : ((0#1 == 1#1) = true) = False := by simp
  simp only [hf, if_false]
  rw [show ((n : ℤ) - 127) = 23 + ((n : ℤ) - 127 - 23) by ring, zpow_add₀ (by norm_num)]
  norm_num

theorem ofBits_shift (n : ℕ) (h1 : 1 ≤ n) (h2 : n < 254) :
    Ideal.ofBits .f32 (BitVec.ofNat 32 n <<< 23) = (((2 : ℝ) ^ ((n : ℤ) - 127) : ℝ) : EReal) :=
  ieee_normal _ n h1 h2 (fields ⟨n, h2⟩ h1).1 (fields ⟨n, h2⟩ h1).2.1 (fields ⟨n, h2⟩ h1).2.2

/-- On words in `[-126, 126]` the two powers of two are one number. -/
theorem powBits_eq (w : BitVec 32) (h1 : -126 ≤ w.toInt) (h2 : w.toInt ≤ 126) : powBits w = powExp w := by
  have hn : w + 127#32 = BitVec.ofNat 32 (w.toInt + 127).toNat := by
    apply BitVec.eq_of_toInt_eq
    have h127 : (127#32 : BitVec 32).toInt = 127 := by decide
    rw [BitVec.toInt_add, h127, BitVec.toInt_ofNat']
    congr 1
    omega
  have hs : IntOp.shli ArithUnit.vector (IntOp.addi w 127#32) 23#32 = BitVec.ofNat 32 (w.toInt + 127).toNat <<< 23 := by
    unfold IntOp.shli IntOp.addi
    rw [hn]
    rfl
  unfold powBits powExp
  rw [hs, ofBits_shift _ (by omega) (by omega)]
  show _ = Ideal.exp2 ((w.toInt : ℝ) : EReal)
  rw [Ideal.exp2_coe]
  congr 1
  show _ = (2 : ℝ) ^ ((w.toInt : ℤ) : ℝ)
  rw [Real.rpow_intCast]
  congr 1
  omega

/-- The `k`-th exponent of the search. -/
abbrev lane (k : Fin 253) : BitVec 32 := IntOp.subi (BitVec.ofNat 32 k.val) 126#32

theorem lane_range : ∀ k : Fin 253, -126 ≤ (lane k).toInt ∧ (lane k).toInt ≤ 126 := by decide

theorem foldMin_lower (f : Fin 253 → BitVec 32) (hf : ∀ k, -126 ≤ (f k).toInt) (s : Finset (Fin 253)) :
    -126 ≤ (s.fold IntOp.minsi 2147483647#32 f).toInt := by
  classical
  induction s using Finset.induction_on with
  | empty => rw [Finset.fold_empty]; decide
  | insert a s ha ih =>
    rw [Finset.fold_insert ha]
    unfold IntOp.minsi
    split
    · exact hf a
    · exact ih

theorem foldMin_upper (f : Fin 253 → BitVec 32) (hf : ∀ k, (f k).toInt ≤ 126) :
    (Finset.univ.fold IntOp.minsi 2147483647#32 f).toInt ≤ 126 := by
  classical
  rw [← Finset.insert_erase (Finset.mem_univ (0 : Fin 253)), Finset.fold_insert (Finset.notMem_erase _ _)]
  unfold IntOp.minsi
  split
  · exact hf 0
  · rename_i h
    rw [BitVec.slt_eq_decide, decide_eq_true_eq] at h
    have := hf 0
    omega

/-- The row maximum of absolute values, from `-∞`. -/
abbrev rowMax {n : ℕ} (f : Fin n → EReal) : EReal :=
  Finset.univ.fold max (Ideal.ofBits FTy.f32 4286578688#32) fun k => FloatOps.absf (F := Ideal) (φ := .f32) (f k)

/-- The exponent of a row: of the row maximum `a` times `1/448`, the least exponent of the search whose power lies above,
    126 where none does, and 0 for a zero or infinite row. -/
def expo (pow : BitVec 32 → EReal) (a : EReal) : BitVec 32 :=
  if a = 0 then 0#32
  else
    Scalar.select
      (IntOp.andi
        (BitVec.ofBool (decide (0 < FloatOps.absf (F := Ideal) (φ := .f32) (a * Ideal.ofBits FTy.f32 991054117#32))))
        (BitVec.ofBool (decide (FloatOps.absf (F := Ideal) (φ := .f32) (a * Ideal.ofBits FTy.f32 991054117#32)
          < Ideal.ofBits FTy.f32 2139095040#32))))
      (Finset.fold IntOp.minsi (2147483647#32)
        (fun x => if FloatOps.absf (F := Ideal) (φ := .f32) (a * Ideal.ofBits FTy.f32 991054117#32) < pow (lane x) then lane x
          else 126#32)
        Finset.univ)
      0#32

/-- The search finds the same exponent over either list of powers. -/
theorem expo_eq (a : EReal) : expo powBits a = expo powExp a := by
  have h : (fun x : Fin 253 => powBits (lane x)) = fun x => powExp (lane x) :=
    funext fun x => powBits_eq _ (lane_range x).1 (lane_range x).2
  have h' := fun x => congrFun h x
  unfold expo
  simp only [h']

theorem expo_range (pow : BitVec 32 → EReal) (a : EReal) : -126 ≤ (expo pow a).toInt ∧ (expo pow a).toInt ≤ 126 := by
  have h0 : (0#32).toInt = 0 := by decide
  have h126 : (126#32).toInt = 126 := by decide
  unfold expo
  split
  · rw [h0]; omega
  · unfold Scalar.select
    split
    · constructor
      · refine foldMin_lower _ (fun k => ?_) _
        split
        · exact (lane_range k).1
        · rw [h126]; omega
      · refine foldMin_upper _ (fun k => ?_)
        split
        · exact (lane_range k).2
        · rw [h126]
    · rw [h0]; omega

theorem neg_range (w : BitVec 32) (h : -126 ≤ w.toInt ∧ w.toInt ≤ 126) :
    -126 ≤ (IntOp.subi 0#32 w).toInt ∧ (IntOp.subi 0#32 w).toInt ≤ 126 := by
  have : (IntOp.subi 0#32 w).toInt = -w.toInt := by
    unfold IntOp.subi
    rw [BitVec.toInt_sub]
    have h0 : (0#32).toInt = 0 := by decide
    rw [h0, Int.bmod_eq_of_le (by omega) (by omega)]
    omega
  omega

/-- The scale of a row with maximum `a`, and the factor its codes are taken with. -/
abbrev scale (a : EReal) : EReal := powExp (expo powExp a)
abbrev inv (a : EReal) : EReal := powExp (IntOp.subi 0#32 (expo powExp a))

theorem scale_bits (a : EReal) : powBits (expo powBits a) = scale a := by
  rw [expo_eq]
  exact powBits_eq _ (expo_range _ _).1 (expo_range _ _).2

theorem inv_bits (a : EReal) : powBits (IntOp.subi 0#32 (expo powBits a)) = inv a := by
  rw [expo_eq]
  exact powBits_eq _ (neg_range _ (expo_range _ _)).1 (neg_range _ (expo_range _ _)).2

/-- One code of a row with maximum `a`: the value times the inverse scale, clamped to `[-448, 448]`. -/
abbrev code (v a : EReal) : EReal :=
  min (Ideal.ofBits FTy.f32 1138753536#32) (max (Ideal.ofBits FTy.f32 3286237184#32) (v * inv a))

end Cert.Moe
-- ==== Proof.Value.Gate.lean ====
/- The four largest of eight logits, found in two ways: by four rounds of "take the first lane at the maximum and mask it
   out", and by a stable sort. On lanes whose logit is above `-∞` both pick the same lanes; the other lanes have the
   weight `exp (-∞) = 0` either way. -/
module

public import Idealize.ShloMosaic.Lib.Pointwise
public import Idealize.ShloMosaic.Lib.SortFacts

@[expose] public section

set_option maxRecDepth 16384

noncomputable section

namespace Cert.Moe

open Idealize.ShloMosaic

theorem negInf : Ideal.ofBits FTy.f32 4286578688#32 = (⊥ : EReal) := by
  show Ideal.ieee 8 23 (4286578688#32) = _
  unfold Ideal.ieee
  have h1 : (4286578688#32 : BitVec 32).extractLsb' (8 + 23) 1 = 1#1 := by decide
  have h2 : ((4286578688#32 : BitVec 32).extractLsb' 23 8).toNat = 255 := by decide
  have h3 : ((4286578688#32 : BitVec 32).extractLsb' 0 23).toNat = 0 := by decide
  simp only [h1, h2, h3]
  norm_num

/-! ## The least lane -/

theorem minsi_eq (x y : BitVec 32) : IntOp.minsi x y = if x.toInt < y.toInt then x else y := by
  unfold IntOp.minsi
  rw [BitVec.slt_eq_decide]
  simp only [decide_eq_true_eq]

theorem cmpi_eq_ite (a b : BitVec 32) : IntOp.cmpi .eq a b = if a = b then 1#1 else 0#1 := by
  show BitVec.ofBool (a == b) = _
  by_cases h : a = b
  · rw [if_pos h, beq_iff_eq.mpr h]; rfl
  · rw [if_neg h, beq_eq_false_iff_ne.mpr h]; rfl

theorem foldMin_le {n : ℕ} (c : BitVec 32) (g : Fin n → BitVec 32) (s : Finset (Fin n)) :
    (∀ y ∈ s, (s.fold IntOp.minsi c g).toInt ≤ (g y).toInt) ∧
      (s.fold IntOp.minsi c g = c ∨ ∃ y ∈ s, s.fold IntOp.minsi c g = g y) := by
  classical
  induction s using Finset.induction_on with
  | empty => exact ⟨fun y hy => absurd hy (Finset.notMem_empty _), .inl Finset.fold_empty⟩
  | insert a s ha ih =>
    rw [Finset.fold_insert ha, minsi_eq]
    by_cases h : (g a).toInt < (Finset.fold IntOp.minsi c g s).toInt
    · rw [if_pos h]
      refine ⟨fun y hy => ?_, .inr ⟨a, Finset.mem_insert_self _ _, rfl⟩⟩
      rcases Finset.mem_insert.mp hy with rfl | hy
      · exact le_refl _
      · exact le_trans (le_of_lt h) (ih.1 y hy)
    · rw [if_neg h]
      refine ⟨fun y hy => ?_, ?_⟩
      · rcases Finset.mem_insert.mp hy with rfl | hy
        · exact not_lt.mp h
        · exact ih.1 y hy
      · rcases ih.2 with h2 | ⟨y, hy, h2⟩
        · exact .inl h2
        · exact .inr ⟨y, Finset.mem_insert_of_mem hy, h2⟩

theorem lane8_toInt : ∀ y : Fin 8, (BitVec.ofNat 32 y.val).toInt = y.val := by decide

theorem foldMin_first (P : Fin 8 → Prop) [DecidablePred P] (a : Fin 8) (ha : P a) (hmin : ∀ y, P y → a ≤ y) :
    (Finset.univ.fold IntOp.minsi 2147483647#32 fun y => if P y then BitVec.ofNat 32 y.val else 8#32)
      = BitVec.ofNat 32 a.val := by
  obtain ⟨hle, hmem⟩ := foldMin_le 2147483647#32 (fun y => if P y then BitVec.ofNat 32 y.val else 8#32) Finset.univ
  have hlea := hle a (Finset.mem_univ _)
  rw [if_pos ha, lane8_toInt] at hlea
  have ha8 := a.isLt
  have hc : (2147483647#32 : BitVec 32).toInt = 2147483647 := by decide
  have h8 : (8#32 : BitVec 32).toInt = 8 := by decide
  rcases hmem with h | ⟨y, _, h⟩
  · rw [h, hc] at hlea; omega
  · rw [h] at hlea ⊢
    by_cases hy : P y
    · rw [if_pos hy] at hlea ⊢
      rw [lane8_toInt] at hlea
      have := hmin y hy
      rw [show y = a from Fin.ext (by have := Fin.le_def.mp this; omega)]
    · rw [if_neg hy, h8] at hlea; omega

/-! ## One round of the kernel's selection -/

/-- The largest of the row, from `-∞`. -/
abbrev top {n : ℕ} (w : Fin n → EReal) : EReal := Finset.univ.fold max (Ideal.ofBits FTy.f32 4286578688#32) w

/-- The first lane at the maximum, as a word. -/
def firstWord (w : Fin 8 → EReal) : BitVec 32 :=
  Finset.univ.fold IntOp.minsi 2147483647#32 fun y => if w y = top w then BitVec.ofNat 32 y.val else 8#32

/-- Whether a lane is the one taken. -/
def hit (w : Fin 8 → EReal) (x : Fin 8) : BitVec 1 := IntOp.cmpi .eq (BitVec.ofNat 32 x.val) (firstWord w)

/-- The row with the lane taken masked out. -/
def masked (w : Fin 8 → EReal) (x : Fin 8) : EReal :=
  Scalar.select (hit w x) (Ideal.ofBits FTy.f32 4286578688#32) (w x)

theorem top_eq_sup {n : ℕ} (w : Fin n → EReal) : top w = Finset.univ.sup w := by
  unfold top
  rw [negInf]
  rfl

theorem le_top' {n : ℕ} (w : Fin n → EReal) (x : Fin n) : w x ≤ top w := by
  rw [top_eq_sup]; exact Finset.le_sup (Finset.mem_univ x)

/-- The lane taken: at the maximum, and no lane before it is. -/
theorem exists_first (w : Fin 8 → EReal) : ∃ a : Fin 8, w a = top w ∧ ∀ y, w y = top w → a ≤ y := by
  obtain ⟨b, _, hb⟩ := Finset.exists_mem_eq_sup (Finset.univ : Finset (Fin 8)) ⟨0, Finset.mem_univ _⟩ w
  have hne : (Finset.univ.filter fun y => w y = top w).Nonempty :=
    ⟨b, Finset.mem_filter.mpr ⟨Finset.mem_univ _, by rw [top_eq_sup, hb]⟩⟩
  refine ⟨_, (Finset.mem_filter.mp (Finset.min'_mem _ hne)).2, fun y hy => Finset.min'_le _ _ ?_⟩
  exact Finset.mem_filter.mpr ⟨Finset.mem_univ _, hy⟩

theorem lane8_inj : ∀ x y : Fin 8, BitVec.ofNat 32 x.val = BitVec.ofNat 32 y.val → x = y := by decide

theorem hit_iff (w : Fin 8 → EReal) (a : Fin 8) (ha : w a = top w) (hmin : ∀ y, w y = top w → a ≤ y) (x : Fin 8) :
    hit w x = if x = a then 1#1 else 0#1 := by
  have hf : firstWord w = BitVec.ofNat 32 a.val := foldMin_first (fun y => w y = top w) a ha hmin
  unfold hit
  rw [hf, cmpi_eq_ite]
  by_cases h : x = a
  · subst h; rw [if_pos rfl, if_pos rfl]
  · rw [if_neg h, if_neg fun e => h (lane8_inj _ _ e)]

theorem masked_iff (w : Fin 8 → EReal) (a : Fin 8) (ha : w a = top w) (hmin : ∀ y, w y = top w → a ≤ y) (x : Fin 8) :
    masked w x = if x = a then ⊥ else w x := by
  unfold masked
  rw [hit_iff w a ha hmin, negInf]
  by_cases h : x = a
  · rw [if_pos h, if_pos h]; rfl
  · rw [if_neg h, if_neg h]; rfl

/-! ## The stable sort -/

/-- `a` sorts before `b`: a larger value, or the same value at an earlier position. -/
abbrev Before (l : Fin 8 → EReal) (a b : Fin 8) : Prop := l b < l a ∨ (l a = l b ∧ a < b)

/-- The comparison the sort is run with. -/
abbrev gt (l : Fin 8 → EReal) (a b : Fin 8) : Bool := FloatOps.cmpfTotal (F := Ideal) (φ := .f32) .gt (l a) (l b) == 1#1

theorem gt_iff (l : Fin 8 → EReal) (a b : Fin 8) : gt l a b = true ↔ l b < l a := by
  show (BitVec.ofBool (decide (l a > l b)) == 1#1) = true ↔ _
  by_cases h : l b < l a <;> simp [h]

theorem insert_before (l : Fin 8 → EReal) (a : Fin 8) (L : List (Fin 8)) (ha : ∀ b ∈ L, a < b)
    (hL : L.Pairwise (Before l)) : (insertBefore (gt l) a L).Pairwise (Before l) := by
  induction L with
  | nil => exact List.pairwise_singleton _ _
  | cons b L ih =>
    rw [List.pairwise_cons] at hL
    unfold insertBefore
    split
    · rename_i h
      refine List.pairwise_cons.mpr ⟨fun c hc => ?_, ih (fun c hc => ha c (List.mem_cons_of_mem _ hc)) hL.2⟩
      rcases List.mem_cons.mp ((perm_insertBefore (gt l) a L).mem_iff.mp hc) with rfl | hc'
      · exact .inl ((gt_iff l b c).mp h)
      · exact hL.1 c hc'
    · rename_i h
      have hle : l b ≤ l a := not_lt.mp fun h' => h ((gt_iff l b a).mpr h')
      have hbef : ∀ c, l c ≤ l a → a < c → Before l a c := fun c h1 h2 =>
        (lt_or_eq_of_le h1).elim .inl fun e => .inr ⟨e.symm, h2⟩
      refine List.pairwise_cons.mpr ⟨fun c hc => ?_, List.pairwise_cons.mpr hL⟩
      rcases List.mem_cons.mp hc with rfl | hc'
      · exact hbef _ hle (ha _ hc)
      · refine hbef _ ?_ (ha _ hc)
        rcases hL.1 c hc' with h1 | h1
        · exact le_trans (le_of_lt h1) hle
        · exact h1.1 ▸ hle

theorem sort_before (l : Fin 8 → EReal) (L : List (Fin 8)) (hL : L.Pairwise (· < ·)) :
    (stableSort (gt l) L).Pairwise (Before l) := by
  induction L with
  | nil => exact List.Pairwise.nil
  | cons a L ih =>
    rw [List.pairwise_cons] at hL
    unfold stableSort
    exact insert_before l a _ (fun b hb => hL.1 b ((perm_stableSort (gt l) L).mem_iff.mp hb)) (ih hL.2)

/-- The position sorted to place `i`. -/
abbrev place (l : Fin 8 → EReal) (i : Fin 8) : Fin 8 := sortedFrom (gt l) i

theorem place_before (l : Fin 8 → EReal) (i j : Fin 8) (h : i < j) : Before l (place l i) (place l j) := by
  have hp := List.pairwise_iff_get.mp (sort_before l (List.finRange 8) (List.pairwise_lt_finRange 8))
  unfold place sortedFrom
  exact hp (i.cast (length_sortPositions 8 (gt l)).symm) (j.cast (length_sortPositions 8 (gt l)).symm) h

theorem place_inj (l : Fin 8 → EReal) : Function.Injective (place l) := sortedFrom_injective _
theorem place_surj (l : Fin 8 → EReal) : Function.Surjective (place l) := sortedFrom_surjective _

/-! ## The rounds select what the sort puts first -/

/-- After `r` rounds: the row is the logits with the selected lanes masked, and among the lanes above `-∞` the selected
    ones are those sorted to the first `r` places. -/
def Rounds (l : Fin 8 → EReal) (r : ℕ) (S : Fin 8 → BitVec 1) (w : Fin 8 → EReal) : Prop :=
  (∀ x, w x = if S x = 1#1 then ⊥ else l x) ∧ ∀ i, ⊥ < l (place l i) → (S (place l i) = 1#1 ↔ i.val < r)

theorem rounds_zero (l : Fin 8 → EReal) : Rounds l 0 (fun _ => 0#1) l :=
  ⟨fun x => (if_neg (show ¬(0#1 : BitVec 1) = 1#1 by decide)).symm, fun i _ => ⟨fun h => absurd h (show ¬(0#1 : BitVec 1) = 1#1 by decide), fun h => absurd h (by omega)⟩⟩

theorem ori_one (a b : BitVec 1) : IntOp.ori a b = 1#1 ↔ a = 1#1 ∨ b = 1#1 := by
  revert a b; decide

theorem rounds_succ (l : Fin 8 → EReal) (r : ℕ) (hr : r < 8) (S : Fin 8 → BitVec 1) (w : Fin 8 → EReal)
    (h : Rounds l r S w) : Rounds l (r + 1) (fun x => IntOp.ori (S x) (hit w x)) (masked w) := by
  obtain ⟨hw, hS⟩ := h
  obtain ⟨a, ha, hmin⟩ := exists_first w
  have hh := hit_iff w a ha hmin
  have hk := masked_iff w a ha hmin
  have hor : ∀ x, IntOp.ori (S x) (hit w x) = 1#1 ↔ S x = 1#1 ∨ x = a := fun x => by
    rw [ori_one, hh]
    by_cases hx : x = a
    · rw [if_pos hx]; exact ⟨fun _ => .inr hx, fun _ => .inr rfl⟩
    · rw [if_neg hx]; exact or_congr_right ⟨fun h => absurd h (show ¬(0#1 : BitVec 1) = 1#1 by decide), fun h => absurd h hx⟩
  refine ⟨fun x => ?_, fun i hi => ?_⟩
  · dsimp only
    rw [hk]
    by_cases hx : x = a
    · rw [if_pos hx, if_pos ((hor x).mpr (.inr hx))]
    · rw [if_neg hx, hw x]
      by_cases hs : S x = 1#1
      · rw [if_pos hs, if_pos ((hor x).mpr (.inl hs))]
      · rw [if_neg hs, if_neg fun h' => ((hor x).mp h').elim hs hx]
  · dsimp only
    rw [hor, hS i hi]
    have hnot : ∀ x, ¬S x = 1#1 → w x = l x := fun x hx => by rw [hw x, if_neg hx]
    constructor
    · rintro (h1 | h1)
      · omega
      · by_contra hlt
        -- the lane taken is then masked or not; unmasked, it is the one at place `r`
        have hns : ¬S a = 1#1 := fun hs => by
          rw [← h1, hS i hi] at hs; omega
        have hbef := place_before l ⟨r, hr⟩ i (Fin.lt_def.mpr (by dsimp only; omega))
        have hge : l a ≤ l (place l ⟨r, hr⟩) := by
          rw [h1] at hbef
          exact hbef.elim le_of_lt fun e => le_of_eq e.1.symm
        have hpos : ⊥ < l (place l ⟨r, hr⟩) := lt_of_lt_of_le (h1 ▸ hi) hge
        have hnr : ¬S (place l ⟨r, hr⟩) = 1#1 := fun hs => by
          have := (hS _ hpos).mp hs; simp at this
        have hle : l (place l ⟨r, hr⟩) ≤ l a := by
          rw [← hnot _ hnr, ← hnot a hns, ha]; exact le_top' w _
        have heq : l (place l ⟨r, hr⟩) = l a := le_antisymm hle hge
        rw [h1] at hbef
        rcases hbef with h2 | h2
        · exact absurd heq (ne_of_gt h2)
        · have := hmin (place l ⟨r, hr⟩) (by rw [hnot _ hnr, heq, ← hnot a hns, ha])
          exact absurd h2.2 (not_lt.mpr this)
    · intro h1
      by_cases hlt : i.val < r
      · exact .inl hlt
      · right
        have hir : i.val = r := by omega
        have hni : ¬S (place l i) = 1#1 := fun hs => hlt ((hS i hi).mp hs)
        have hle : l (place l i) ≤ w a := by
          rw [← hnot _ hni, ha]; exact le_top' w _
        have hns : ¬S a = 1#1 := fun hs => by
          have h3 := hw a
          rw [if_pos hs] at h3
          rw [h3] at hle
          exact absurd hi (not_lt.mpr hle)
        rw [hnot a hns] at hle
        obtain ⟨j, hj⟩ := place_surj l a
        have hja : ⊥ < l (place l j) := by rw [hj]; exact lt_of_lt_of_le hi hle
        have hjr : ¬j.val < r := fun h3 => hns (by rw [← hj]; exact (hS j hja).mpr h3)
        by_cases hij : i = j
        · rw [hij, hj]
        · exfalso
          have hbef := place_before l i j (Fin.lt_def.mpr (by have : i.val ≠ j.val := fun e => hij (Fin.ext e); omega))
          rw [hj] at hbef
          rcases hbef with h2 | h2
          · exact absurd hle (not_le.mpr h2)
          · have := hmin (place l i) (by rw [hnot _ hni, h2.1, ← hnot a hns, ha])
            exact absurd h2.2 (not_lt.mpr this)

/-! ## The gate -/

/-- The lanes the kernel's four rounds select. -/
def sel4 (l : Fin 8 → EReal) (x : Fin 8) : BitVec 1 :=
  IntOp.ori (IntOp.ori (IntOp.ori (IntOp.ori 0#1 (hit l x)) (hit (masked l) x)) (hit (masked (masked l)) x))
    (hit (masked (masked (masked l))) x)

/-- A selected lane's weight. -/
def weightK (l : Fin 8 → EReal) (x : Fin 8) : EReal := Scalar.select (sel4 l x) (Ideal.exp (l x - top l)) 0

/-- The kernel's gate. -/
def gateK (l : Fin 8 → EReal) (x : Fin 8) : EReal := Ideal.div (weightK l x) (∑ y : Fin 8, weightK l y)

/-- The `j`-th of the four largest logits, its position, and its weight. -/
abbrev at4 (l : Fin 8 → EReal) (j : Fin 4) : Fin 8 := place l ⟨j.val, by omega⟩
abbrev weight4 (l : Fin 8 → EReal) (j : Fin 4) : EReal := Ideal.exp (l (at4 l j) - top fun k : Fin 4 => l (at4 l k))

/-- The reference's gate. -/
def gateR (l : Fin 8 → EReal) (x : Fin 8) : EReal :=
  Ideal.div (∑ j : Fin 4, Scalar.select (IntOp.cmpi .eq (BitVec.ofNat 32 (at4 l j).val) (BitVec.ofNat 32 x.val)) (weight4 l j) 0)
    (∑ j : Fin 4, weight4 l j)

theorem sel4_rounds (l : Fin 8 → EReal) : ∃ w, Rounds l 4 (sel4 l) w :=
  ⟨_, rounds_succ l 3 (by omega) _ _ (rounds_succ l 2 (by omega) _ _ (rounds_succ l 1 (by omega) _ _
    (rounds_succ l 0 (by omega) _ _ (rounds_zero l))))⟩

theorem top4 (l : Fin 8 → EReal) : (top fun k : Fin 4 => l (at4 l k)) = top l := by
  apply le_antisymm
  · rw [top_eq_sup]
    exact Finset.sup_le fun k _ => le_top' l _
  · rw [top_eq_sup]
    refine Finset.sup_le fun x _ => ?_
    obtain ⟨i, hi⟩ := place_surj l x
    refine le_trans ?_ (le_top' (fun k : Fin 4 => l (at4 l k)) 0)
    rw [← hi]
    by_cases h0 : i = 0
    · rw [h0]
      exact le_refl _
    · rcases place_before l 0 i (Fin.pos_iff_ne_zero.mpr h0) with h | h
      · exact le_of_lt h
      · exact le_of_eq h.1.symm

theorem select_of_not (b : BitVec 1) (h : ¬b = 1#1) (u v : EReal) : Scalar.select b u v = v := by
  unfold Scalar.select
  rw [if_neg (by simpa using h)]

theorem select_of (b : BitVec 1) (h : b = 1#1) (u v : EReal) : Scalar.select b u v = u := by
  subst h; rfl

theorem weight_eq (l : Fin 8 → EReal) (x : Fin 8) :
    weightK l x = ∑ j : Fin 4, if at4 l j = x then Ideal.exp (l (at4 l j) - top l) else 0 := by
  obtain ⟨w, _, hS⟩ := sel4_rounds l
  obtain ⟨i, hi⟩ := place_surj l x
  have hx := hS i
  rw [hi] at hx
  by_cases hb : l x = ⊥
  · have h0 : ∀ y, l y = ⊥ → Ideal.exp (l y - top l) = 0 := fun y hy => by
      rw [hy, sub_eq_add_neg, EReal.bot_add]; rfl
    have hK : weightK l x = 0 := by
      unfold weightK
      rw [h0 x hb]
      unfold Scalar.select
      split <;> rfl
    rw [hK]
    symm
    refine Finset.sum_eq_zero fun j _ => ?_
    split
    · rename_i h
      rw [h]; exact h0 x hb
    · rfl
  · have hpos : ⊥ < l x := bot_lt_iff_ne_bot.mpr hb
    by_cases hlt : i.val < 4
    · unfold weightK
      rw [select_of _ ((hx hpos).mpr hlt)]
      rw [Finset.sum_eq_single (⟨i.val, hlt⟩ : Fin 4)]
      · have : at4 l ⟨i.val, hlt⟩ = x := hi
        rw [if_pos this, this]
      · intro j _ hj
        rw [if_neg]
        intro h
        have := place_inj l (h.trans hi.symm)
        exact hj (Fin.ext (Fin.mk.inj_iff.mp this))
      · exact fun h => absurd (Finset.mem_univ _) h
    · unfold weightK
      rw [select_of_not _ (fun h => hlt ((hx hpos).mp h))]
      symm
      refine Finset.sum_eq_zero fun j _ => if_neg fun h => hlt ?_
      have := congrArg Fin.val (place_inj l (h.trans hi.symm))
      dsimp only at this
      omega

/-- THE GATES AGREE. -/
theorem gate_eq (l : Fin 8 → EReal) (x : Fin 8) : gateK l x = gateR l x := by
  have hsel : ∀ (j : Fin 4) (y : Fin 8),
      Scalar.select (IntOp.cmpi .eq (BitVec.ofNat 32 (at4 l j).val) (BitVec.ofNat 32 y.val)) (weight4 l j) (0 : EReal)
        = if at4 l j = y then Ideal.exp (l (at4 l j) - top l) else 0 := fun j y => by
    by_cases h : at4 l j = y
    · rw [if_pos h, select_of _ (by rw [h, cmpi_eq_ite, if_pos rfl])]
      unfold weight4
      rw [top4]
    · rw [if_neg h, select_of_not]
      rw [cmpi_eq_ite, if_neg fun e => h (lane8_inj _ _ e)]
      decide
  have hden : ∑ y : Fin 8, weightK l y = ∑ j : Fin 4, weight4 l j := by
    simp only [weight_eq]
    rw [Finset.sum_comm]
    refine Finset.sum_congr rfl fun j _ => ?_
    rw [Finset.sum_ite_eq, if_pos (Finset.mem_univ _)]
    unfold weight4
    rw [top4]
  unfold gateK gateR
  rw [hden, weight_eq]
  simp only [hsel]

end Cert.Moe
-- ==== Proof.Value.Spec.lean ====
/- The layer as a function of its argument arrays, entry by entry: what both programs are shown to compute. -/
module

public import proofs.«01_k».proof.Proof.Value.Scalar
public import proofs.«01_k».proof.Proof.Value.Gate

@[expose] public section

noncomputable section

namespace Cert.Moe

open Idealize.ShloMosaic

variable (X : Fin 1024 → Fin 2816 → EReal) (WR : Fin 2816 → Fin 8 → EReal) (WU : Fin 8 → Fin 2816 → Fin 5632 → EReal)
  (SU : Fin 8 → Fin 5632 → EReal) (WD : Fin 8 → Fin 2816 → Fin 2816 → EReal) (SD : Fin 8 → Fin 2816 → EReal)

/-- The logit of token `t` for expert `e`. -/
def logit (t : Fin 1024) (e : Fin 8) : EReal := ∑ k : Fin 2816, X t k * WR k e

/-- One hidden unit from the row's codes `q`, its scale `s`, the weight column `w` and the column's scale `ws`. -/
def unitOf (q : Fin 2816 → EReal) (s : EReal) (w : Fin 2816 → EReal) (ws : EReal) : EReal := (∑ k : Fin 2816, q k * w k) * s * ws

/-- The gated unit: `silu` of the gate unit times the up unit. -/
def glu (g u : EReal) : EReal := g * Ideal.logistic g * u

/-- Hidden unit `f` of expert `e` for token `t`. -/
def hidden (e : Fin 8) (t : Fin 1024) (f : Fin 5632) : EReal :=
  unitOf (fun k => code (X t k) (rowMax (X t))) (scale (rowMax (X t))) (fun k => WU e k f) (SU e f)

/-- Activation `f` of expert `e` for token `t`. -/
def act (e : Fin 8) (t : Fin 1024) (f : Fin 2816) : EReal :=
  glu (hidden X WU SU e t ⟨f.val, by omega⟩) (hidden X WU SU e t ⟨2816 + f.val, by omega⟩)

/-- Expert `e`'s output for token `t`, weighted by its gate. -/
def part (e : Fin 8) (t : Fin 1024) (d : Fin 2816) : EReal :=
  unitOf (fun k => code (act X WU SU e t k) (rowMax (act X WU SU e t)))
    (scale (rowMax (act X WU SU e t)) * gateR (logit X WR t) e) (fun k => WD e k d) (SD e d)

/-- The layer's output. -/
def layer (t : Fin 1024) (d : Fin 2816) : EReal := ∑ e : Fin 8, part X WR WU SU WD SD e t d

end Cert.Moe
-- ==== Proof.Value.KernelPay.lean ====
/- The kernel's stored values, read at an index. -/
module

public import proofs.«01_k».proof.Proof.Gen.KernelIdeal.Skeleton
public import proofs.«01_k».proof.Proof.Value.Spec

@[expose] public section

set_option maxRecDepth 16384

noncomputable section

namespace Cert.KernelIdeal.Value

open Idealize.ShloMosaic Cert.KernelIdeal Cert.KernelIdeal.Gen Cert.Moe

/-! ## The router -/

theorem pay4_at (x : Vec Ideal S1024x2816 .bf16) (r : Fin 1024) (k : Fin 2816) : k0_pay4 (F := Ideal) x (ix2 r k) = x (ix2 r k) := by
  pointwise [k0_pay4]

theorem rowMax_at (v : FVec Ideal S1024x2816 .f32) (r : Fin 1024) : k0_pay13 (F := Ideal) v (ix2 r 0) = rowMax fun k => v (ix2 r k) := by
  unfold rowMax
  pointwise [k0_pay13]

theorem mean_of (A : FVec Ideal S1024x1 .f32) (r : Fin 1024) :
    mulf A (broadcast S1024x1 (Scalar.ofBits (F := Ideal) .f32 991054117#32)) (ix2 r 0) = A (ix2 r 0) * Ideal.ofBits FTy.f32 991054117#32 := by
  pointwise

theorem mean_at (v : FVec Ideal S1024x2816 .f32) (r : Fin 1024) :
    k0_pay14 (F := Ideal) v (ix2 r 0) = k0_pay13 (F := Ideal) v (ix2 r 0) * Ideal.ofBits FTy.f32 991054117#32 := by
  unfold k0_pay14
  exact mean_of _ r

theorem lane_at (r : Fin 1024) (x : Fin 253) :
    subi (iota .tc S1024x253 32 [1] iota_S1024x253_d1_w32) (broadcast S1024x253 126#32) (ix2 r x) = lane x := by
  unfold lane
  pointwise

theorem below_at (a : FVec Ideal S1024x1 .f32) (L : IVec S1024x253 32) (r : Fin 1024) (x : Fin 253) :
    select (cmpf .olt (broadcastTo S1024x253 a broadcasts_S1024x1_S1024x253) (bitcastToFloat .f32 (shli (addi L (broadcast S1024x253 127#32)) (broadcast S1024x253 23#32)))) L (broadcast S1024x253 126#32) (ix2 r x)
     = if (a (ix2 r 0)) < powBits (L (ix2 r x)) then L (ix2 r x) else 126#32 := by
  unfold powBits
  pointwise

theorem absf_at (a : FVec Ideal S1024x1 .f32) (j : S1024x1.Idx) : absf a j = FloatOps.absf (a j) := rfl

theorem lanes_at (v : FVec Ideal S1024x2816 .f32) (r : Fin 1024) (x : Fin 253) : k0_pay15 (F := Ideal) v (ix2 r x)
    = if FloatOps.absf (F := Ideal) (φ := .f32) (k0_pay14 (F := Ideal) v (ix2 r 0)) < powBits (lane x) then lane x
      else 126#32 := by
  unfold k0_pay15
  dsimp only
  rw [below_at, lane_at, absf_at]

theorem expo_of (a b : FVec Ideal S1024x1 .f32) (L : IVec S1024x253 32) (r : Fin 1024)
   (hb : b (ix2 r 0) = a (ix2 r 0) * Ideal.ofBits FTy.f32 991054117#32)
   (hL : ∀ x, L (ix2 r x) = if FloatOps.absf (F := Ideal) (φ := .f32) (b (ix2 r 0)) < powBits (lane x) then lane x
      else 126#32) :
    k0_pay1 (F := Ideal) a b L (ix2 r 0) = expo powBits (a (ix2 r 0)) := by
  rw [hb] at hL
  unfold expo
  pointwise [k0_pay1]
  simp only [hb, hL]

theorem expo_at (v : FVec Ideal S1024x2816 .f32) (r : Fin 1024) :
    k0_pay1 (F := Ideal) (k0_pay13 v) (k0_pay14 v) (k0_pay15 v) (ix2 r 0) = expo powBits (rowMax fun k => v (ix2 r k)) := by
  rw [expo_of _ _ _ r (mean_at v r) (lanes_at v r), rowMax_at]

theorem scale_of (a b : FVec Ideal S1024x1 .f32) (L : IVec S1024x253 32) (r : Fin 1024) :
    k0_pay2 (F := Ideal) a b L (ix2 r 0) = powBits (k0_pay1 (F := Ideal) a b L (ix2 r 0)) := by
  unfold powBits
  pointwise [k0_pay2]

theorem codes_of (v : FVec Ideal S1024x2816 .f32) (a b : FVec Ideal S1024x1 .f32) (L : IVec S1024x253 32) (r : Fin 1024) (k : Fin 2816) :
    k0_pay3 (F := Ideal) v a b L (ix2 r k) = min (Ideal.ofBits FTy.f32 1138753536#32) (max (Ideal.ofBits FTy.f32 3286237184#32)
       (v (ix2 r k) * powBits (IntOp.subi 0#32 (k0_pay1 (F := Ideal) a b L (ix2 r 0))))) := by
  unfold powBits
  pointwise [k0_pay3]

theorem scale_at (v : FVec Ideal S1024x2816 .f32) (r : Fin 1024) :
    k0_pay2 (F := Ideal) (k0_pay13 v) (k0_pay14 v) (k0_pay15 v) (ix2 r 0) = scale (rowMax fun k => v (ix2 r k)) := by
  rw [scale_of, expo_at, scale_bits]

theorem codes_at (v : FVec Ideal S1024x2816 .f32) (r : Fin 1024) (k : Fin 2816) :
    k0_pay3 (F := Ideal) v (k0_pay13 v) (k0_pay14 v) (k0_pay15 v) (ix2 r k) = code (v (ix2 r k)) (rowMax fun k => v (ix2 r k)) := by
  rw [codes_of, expo_at, inv_bits]

theorem logit_at (x : FVec Ideal S1024x2816 .bf16) (w : FVec Ideal S2816x8 .f32) (r : Fin 1024) (e : Fin 8) :
    k0_pay5 (F := Ideal) x w (ix2 r e) = logit (fun t k => x (ix2 t k)) (fun k e => w (ix2 k e)) r e := by
  unfold logit
  pointwise [k0_pay5, k0_pay4]

theorem gate_at (x : Vec Ideal S1024x2816 .bf16) (w : Vec Ideal S2816x8 .f32) (r : Fin 1024) (e : Fin 8) :
    k0_pay12 (F := Ideal) (k0_pay5 x w) (iota .tc S1024x8 32 [1] iota_S1024x8_d1_w32) (k0_pay9 x w) (k0_pay10 x w) (k0_pay11 x w) (ix2 r e)
      = gateK (fun e => k0_pay5 (F := Ideal) x w (ix2 r e)) e := by
  have h6 : ∀ e, k0_pay6 (F := Ideal) x w (ix2 r e) = hit (fun e => k0_pay5 (F := Ideal) x w (ix2 r e)) e := fun e => by
    unfold hit firstWord
    pointwise [k0_pay6]
  have h7 : ∀ e, k0_pay7 (F := Ideal) x w (ix2 r e) = masked (fun e => k0_pay5 (F := Ideal) x w (ix2 r e)) e := fun e => by
    unfold masked
    rw [← h6]
    pointwise [k0_pay7]
  have h8 : ∀ e, k0_pay8 (F := Ideal) x w (ix2 r e) = hit (masked fun e => k0_pay5 (F := Ideal) x w (ix2 r e)) e := fun e => by
    unfold hit firstWord top
    simp only [← h7]
    pointwise [k0_pay8]
  have h10 : ∀ e, k0_pay10 (F := Ideal) x w (ix2 r e) = masked (masked fun e => k0_pay5 (F := Ideal) x w (ix2 r e)) e := fun e => by
    have : k0_pay10 (F := Ideal) x w (ix2 r e) = Scalar.select (k0_pay8 (F := Ideal) x w (ix2 r e)) (Ideal.ofBits FTy.f32 4286578688#32) (k0_pay7 (F := Ideal) x w (ix2 r e)) := by pointwise [k0_pay10]
    rw [this, h7, h8]
    rfl
  have h11 : ∀ e, k0_pay11 (F := Ideal) x w (ix2 r e) = hit (masked (masked fun e => k0_pay5 (F := Ideal) x w (ix2 r e))) e := fun e => by
    unfold hit firstWord top
    simp only [← h10]
    pointwise [k0_pay11]
  have h9 : ∀ e, k0_pay9 (F := Ideal) x w (ix2 r e) = IntOp.ori (IntOp.ori 0#1 (hit (fun e => k0_pay5 (F := Ideal) x w (ix2 r e)) e)) (hit (masked fun e => k0_pay5 (F := Ideal) x w (ix2 r e)) e) := fun e => by
    rw [← h6, ← h8]
    pointwise [k0_pay9]
  generalize hl : k0_pay5 (F := Ideal) x w = l at *
  pointwise [k0_pay12]
  simp only [h9, h10, h11]
  rfl

/-! ## The experts -/

theorem up_at (q : FVec Ideal S1024x2816 .fp8e4m3) (s : FVec Ideal S1024x1 .f32) (wg : FVec Ideal S1x2816x256 .fp8e4m3)
    (sg : FVec Ideal S1x1x256 .f32) (wu : FVec Ideal S1x2816x256 .fp8e4m3) (su : FVec Ideal S1x1x256 .f32) (r : Fin 1024) (c : Fin 256) :
    k1_pay1 (F := Ideal) q s wg sg wu su (ix2 r c)
      = glu (unitOf (fun k => q (ix2 r k)) (s (ix2 r 0)) (fun k => wg (ix3 0 k c)) (sg (ix3 0 0 c)))
          (unitOf (fun k => q (ix2 r k)) (s (ix2 r 0)) (fun k => wu (ix3 0 k c)) (su (ix3 0 0 c))) := by
  unfold glu unitOf
  pointwise [k1_pay1]

/-- The experts' kernel searches the exponent as the router does. -/
theorem expo1_eq (v : Vec Ideal S1024x2816 .f32) :
    k1_pay6 (F := Ideal) v = k0_pay1 (F := Ideal) (k0_pay13 (F := Ideal) v) (k0_pay14 (F := Ideal) v) (k0_pay15 (F := Ideal) v) := rfl

theorem scale1_of (v : Vec Ideal S1024x2816 .f32) (r : Fin 1024) :
    k1_pay7 (F := Ideal) v (ix2 r 0) = powBits (k1_pay6 (F := Ideal) v (ix2 r 0)) := by
  unfold powBits
  pointwise [k1_pay7]

theorem codes1_of (v : Vec Ideal S1024x2816 .f32) (r : Fin 1024) (k : Fin 2816) :
    k1_pay2 (F := Ideal) v (k1_pay8 (F := Ideal) v) k1_pay9 (ix2 r k) = min (Ideal.ofBits FTy.f32 1138753536#32) (max (Ideal.ofBits FTy.f32 3286237184#32)
       (v (ix2 r k) * powBits (IntOp.subi 0#32 (k1_pay6 (F := Ideal) v (ix2 r 0))))) := by
  unfold powBits
  pointwise [k1_pay2, k1_pay8, k1_pay9]

theorem scale1_at (v : Vec Ideal S1024x2816 .f32) (r : Fin 1024) :
    k1_pay7 (F := Ideal) v (ix2 r 0) = scale (rowMax fun k => v (ix2 r k)) := by
  rw [scale1_of, expo1_eq, expo_at, scale_bits]

theorem codes1_at (v : Vec Ideal S1024x2816 .f32) (r : Fin 1024) (k : Fin 2816) :
    k1_pay2 (F := Ideal) v (k1_pay8 (F := Ideal) v) k1_pay9 (ix2 r k) = code (v (ix2 r k)) (rowMax fun k => v (ix2 r k)) := by
  rw [codes1_of, expo1_eq, expo_at, inv_bits]

theorem gate1_at (i : grid1.Coords) (e : Fin 8) (he : (i 0).val = e.val) (s : FVec Ideal S1024x1 .f32) (g : FVec Ideal S1024x8 .f32) (r : Fin 1024) :
    k1_pay3 i s g (ix2 r 0) = s (ix2 r 0) * g (ix2 r e) := by
  pointwise [k1_pay3]
  congr 1
  rw [Finset.sum_eq_single e]
  · rw [he, cmpi_eq_ite, if_pos rfl]; rfl
  · intro x _ hx
    rw [he, cmpi_eq_ite, if_neg]
    · rfl
    · intro h
      have := congrArg BitVec.toNat h
      simp only [BitVec.toNat_ofNat] at this
      exact hx (Fin.ext (by omega))
  · intro h; exact absurd (Finset.mem_univ _) h

theorem down_at (i : grid1.Coords) (q : FVec Ideal S1024x2816 .fp8e4m3) (w : FVec Ideal S1x2816x256 .fp8e4m3) (s : FVec Ideal S1024x1 .f32)
    (sd : FVec Ideal S1x1x256 .f32) (prev : FVec Ideal S1024x256 .f32) (r : Fin 1024) (c : Fin 256) :
    k1_pay4 i q w s sd prev (ix2 r c) = (if (i 0).val = 0 then 0 else prev (ix2 r c))
      + unitOf (fun k => q (ix2 r k)) (s (ix2 r 0)) (fun k => w (ix3 0 k c)) (sd (ix3 0 0 c)) := by
  unfold unitOf
  pointwise [k1_pay4]
  congr 1
  have hi : (i 0).val < 8 := (i 0).isLt
  generalize (i 0).val = n at hi ⊢
  interval_cases n <;> rfl

end Cert.KernelIdeal.Value
-- ==== Proof.Value.KernelBlocks.lean ====
/- What the experts' windows read: each block's entry is an entry of its array. -/
module

public import proofs.«01_k».proof.Proof.KernelIdeal.Run
public import Idealize.ShloMosaic.Lib.Pointwise

@[expose] public section

set_option maxRecDepth 16384

noncomputable section

namespace Cert.KernelIdeal.Value

open Idealize.ShloMosaic Idealize.ShloMosaic.TcCoe Cert.KernelIdeal Cert.KernelIdeal.Gen

variable (V : (c : Dev nD) → (b : Ref sig .tc) → Buf (Elt Ideal) ((c : Thread nD τ).loc b))

/-! ## The index maps -/

theorem word_toNat (a : ℕ) (h : a < 22) : (BitVec.ofNat 32 a).toNat = a := by
  rw [BitVec.toNat_ofNat]; omega

theorem min10 (b : ℕ) (h : b < 11) : Scalar.minsi (BitVec.ofNat 32 b) 10#32 = BitVec.ofNat 32 b := by
  interval_cases b <;> rfl

theorem add11 (b : ℕ) (h : b < 11) : (Scalar.addi 11#32 (BitVec.ofNat 32 b)).toNat = 11 + b := by
  interval_cases b <;> rfl

theorem sub11 (b : ℕ) (h : b < 11) : (Scalar.maxsi (Scalar.subi (BitVec.ofNat 32 (11 + b)) 11#32) 0#32).toNat = b := by
  interval_cases b <;> rfl

/-- The point of expert `e`'s up stripe `j`, and its coordinates. -/
theorem pt_up (e : Fin 8) (j : Fin 11) : (grid1.coords (pt (22 * e.val + j.val)) 0).val = e.val ∧ (grid1.coords (pt (22 * e.val + j.val)) 1).val = j.val := by
  have h : (pt (22 * e.val + j.val)).val = 22 * e.val + j.val := by unfold pt; dsimp only; omega
  constructor
  · rw [coord0, h]; omega
  · rw [coord1, h]; omega

/-- The point of expert `e`'s down stripe `j`, and its coordinates. -/
theorem pt_down (e : Fin 8) (j : Fin 11) : (grid1.coords (pt (22 * e.val + 11 + j.val)) 0).val = e.val ∧ (grid1.coords (pt (22 * e.val + 11 + j.val)) 1).val = 11 + j.val := by
  have h : (pt (22 * e.val + 11 + j.val)).val = 22 * e.val + 11 + j.val := by unfold pt; dsimp only; omega
  constructor
  · rw [coord0, h]; omega
  · rw [coord1, h]; omega

theorem map3 (i : grid1.Coords) (e : Fin 8) (j : Fin 11) (h : (i 0).val = e.val ∧ (i 1).val = j.val) : cc1_transform_3 i = ![e.val, 0, j.val] := by
  unfold cc1_transform_3
  dsimp only
  rw [h.1, h.2, min10 _ j.isLt, word_toNat e.val (by omega), word_toNat j.val (by omega)]; rfl

theorem map4 (i : grid1.Coords) (e : Fin 8) (j : Fin 11) (h : (i 0).val = e.val ∧ (i 1).val = j.val) : cc1_transform_4 i = ![e.val, 0, 11 + j.val] := by
  unfold cc1_transform_4
  dsimp only
  rw [h.1, h.2, min10 _ j.isLt, add11 _ j.isLt, word_toNat _ (by omega)]; rfl

theorem map7 (i : grid1.Coords) (e : Fin 8) (j : Fin 11) (h : (i 0).val = e.val ∧ (i 1).val = 11 + j.val) : cc1_transform_7 i = ![e.val, 0, j.val] := by
  unfold cc1_transform_7
  dsimp only
  rw [h.1, h.2, sub11 _ j.isLt, word_toNat _ (by omega)]; rfl

theorem map5 (i : grid1.Coords) (e : Fin 8) (j : Fin 11) (h : (i 0).val = e.val ∧ (i 1).val = j.val) : cc1_transform_5 i = ![e.val, 0, j.val] := map3 i e j h
theorem map6 (i : grid1.Coords) (e : Fin 8) (j : Fin 11) (h : (i 0).val = e.val ∧ (i 1).val = j.val) : cc1_transform_6 i = ![e.val, 0, 11 + j.val] := map4 i e j h
theorem map8 (i : grid1.Coords) (e : Fin 8) (j : Fin 11) (h : (i 0).val = e.val ∧ (i 1).val = 11 + j.val) : cc1_transform_8 i = ![e.val, 0, j.val] := map7 i e j h

/-! ## The blocks -/

/-- The router's codes, scales and gates are read whole. -/
theorem blk0 (c : Dev nD) (t : Fin cfg1.N) (r : Fin 1024) (k : Fin 2816) : iblk1 V c 0 t (ix2 r k) = V c main_v1_0 (ix2 r k) := by
  unfold iblk1
  rw [View.read_apply]
  show V c main_v1_0 _ = V c main_v1_0 _
  congr 1
  funext a
  apply Fin.ext
  match a with
  | ⟨0, _⟩ => show 0 * 1024 + 1 * r.val = r.val; omega
  | ⟨1, _⟩ => show 0 * 2816 + 1 * k.val = k.val; omega

theorem blk1 (c : Dev nD) (t : Fin cfg1.N) (r : Fin 1024) : iblk1 V c 1 t (ix2 r 0) = V c main_v1_1 (ix2 r 0) := by
  unfold iblk1
  rw [View.read_apply]
  show V c main_v1_1 _ = V c main_v1_1 _
  congr 1
  funext a
  apply Fin.ext
  match a with
  | ⟨0, _⟩ => show 0 * 1024 + 1 * r.val = r.val; omega
  | ⟨1, _⟩ => rfl

theorem blk2 (c : Dev nD) (t : Fin cfg1.N) (r : Fin 1024) (e : Fin 8) : iblk1 V c 2 t (ix2 r e) = V c main_v1_2 (ix2 r e) := by
  unfold iblk1
  rw [View.read_apply]
  show V c main_v1_2 _ = V c main_v1_2 _
  congr 1
  funext a
  apply Fin.ext
  match a with
  | ⟨0, _⟩ => show 0 * 1024 + 1 * r.val = r.val; omega
  | ⟨1, _⟩ => show 0 * 8 + 1 * e.val = e.val; omega

theorem blk3 (c : Dev nD) (e : Fin 8) (j : Fin 11) (k : Fin 2816) (d : Fin 256) :
    iblk1 V c 3 (pt (22 * e.val + j.val)) (ix3 0 k d) = V c main_arg2 (ix3 e k ⟨256 * j.val + d.val, by omega⟩) := by
  have h := map3 _ e j (pt_up e j)
  unfold iblk1
  rw [View.read_apply]
  show V c main_arg2 _ = V c main_arg2 _
  congr 1
  funext a
  apply Fin.ext
  match a with
  | ⟨0, _⟩ => show cc1_transform_3 (grid1.coords (pt (22 * e.val + j.val))) 0 * 1 + 1 * 0 = e.val; rw [h]; show e.val * 1 + 1 * 0 = e.val; omega
  | ⟨1, _⟩ => show cc1_transform_3 (grid1.coords (pt (22 * e.val + j.val))) 1 * 2816 + 1 * k.val = k.val; rw [h]; show 0 * 2816 + 1 * k.val = k.val; omega
  | ⟨2, _⟩ => show cc1_transform_3 (grid1.coords (pt (22 * e.val + j.val))) 2 * 256 + 1 * d.val = 256 * j.val + d.val; rw [h]; show j.val * 256 + 1 * d.val = _; omega

theorem blk4 (c : Dev nD) (e : Fin 8) (j : Fin 11) (k : Fin 2816) (d : Fin 256) :
    iblk1 V c 4 (pt (22 * e.val + j.val)) (ix3 0 k d) = V c main_arg2 (ix3 e k ⟨2816 + (256 * j.val + d.val), by omega⟩) := by
  have h := map4 _ e j (pt_up e j)
  unfold iblk1
  rw [View.read_apply]
  show V c main_arg2 _ = V c main_arg2 _
  congr 1
  funext a
  apply Fin.ext
  match a with
  | ⟨0, _⟩ => show cc1_transform_4 (grid1.coords (pt (22 * e.val + j.val))) 0 * 1 + 1 * 0 = e.val; rw [h]; show e.val * 1 + 1 * 0 = e.val; omega
  | ⟨1, _⟩ => show cc1_transform_4 (grid1.coords (pt (22 * e.val + j.val))) 1 * 2816 + 1 * k.val = k.val; rw [h]; show 0 * 2816 + 1 * k.val = k.val; omega
  | ⟨2, _⟩ => show cc1_transform_4 (grid1.coords (pt (22 * e.val + j.val))) 2 * 256 + 1 * d.val = 2816 + (256 * j.val + d.val); rw [h]; show (11 + j.val) * 256 + 1 * d.val = _; omega

theorem blk5 (c : Dev nD) (e : Fin 8) (j : Fin 11) (d : Fin 256) :
    iblk1 V c 5 (pt (22 * e.val + j.val)) (ix3 0 0 d) = V c main_v2 (ix3 e 0 ⟨256 * j.val + d.val, by omega⟩) := by
  have h := map5 _ e j (pt_up e j)
  unfold iblk1
  rw [View.read_apply]
  show V c main_v2 _ = V c main_v2 _
  congr 1
  funext a
  apply Fin.ext
  match a with
  | ⟨0, _⟩ => show cc1_transform_5 (grid1.coords (pt (22 * e.val + j.val))) 0 * 1 + 1 * 0 = e.val; rw [h]; show e.val * 1 + 1 * 0 = e.val; omega
  | ⟨1, _⟩ => show cc1_transform_5 (grid1.coords (pt (22 * e.val + j.val))) 1 * 1 + 1 * 0 = 0; rw [h]; rfl
  | ⟨2, _⟩ => show cc1_transform_5 (grid1.coords (pt (22 * e.val + j.val))) 2 * 256 + 1 * d.val = 256 * j.val + d.val; rw [h]; show j.val * 256 + 1 * d.val = _; omega

theorem blk6 (c : Dev nD) (e : Fin 8) (j : Fin 11) (d : Fin 256) :
    iblk1 V c 6 (pt (22 * e.val + j.val)) (ix3 0 0 d) = V c main_v3 (ix3 e 0 ⟨2816 + (256 * j.val + d.val), by omega⟩) := by
  have h := map6 _ e j (pt_up e j)
  unfold iblk1
  rw [View.read_apply]
  show V c main_v3 _ = V c main_v3 _
  congr 1
  funext a
  apply Fin.ext
  match a with
  | ⟨0, _⟩ => show cc1_transform_6 (grid1.coords (pt (22 * e.val + j.val))) 0 * 1 + 1 * 0 = e.val; rw [h]; show e.val * 1 + 1 * 0 = e.val; omega
  | ⟨1, _⟩ => show cc1_transform_6 (grid1.coords (pt (22 * e.val + j.val))) 1 * 1 + 1 * 0 = 0; rw [h]; rfl
  | ⟨2, _⟩ => show cc1_transform_6 (grid1.coords (pt (22 * e.val + j.val))) 2 * 256 + 1 * d.val = 2816 + (256 * j.val + d.val); rw [h]; show (11 + j.val) * 256 + 1 * d.val = _; omega

theorem blk7 (c : Dev nD) (e : Fin 8) (j : Fin 11) (k : Fin 2816) (d : Fin 256) :
    iblk1 V c 7 (pt (22 * e.val + 11 + j.val)) (ix3 0 k d) = V c main_arg4 (ix3 e k ⟨256 * j.val + d.val, by omega⟩) := by
  have h := map7 _ e j (pt_down e j)
  unfold iblk1
  rw [View.read_apply]
  show V c main_arg4 _ = V c main_arg4 _
  congr 1
  funext a
  apply Fin.ext
  match a with
  | ⟨0, _⟩ => show cc1_transform_7 (grid1.coords (pt (22 * e.val + 11 + j.val))) 0 * 1 + 1 * 0 = e.val; rw [h]; show e.val * 1 + 1 * 0 = e.val; omega
  | ⟨1, _⟩ => show cc1_transform_7 (grid1.coords (pt (22 * e.val + 11 + j.val))) 1 * 2816 + 1 * k.val = k.val; rw [h]; show 0 * 2816 + 1 * k.val = k.val; omega
  | ⟨2, _⟩ => show cc1_transform_7 (grid1.coords (pt (22 * e.val + 11 + j.val))) 2 * 256 + 1 * d.val = 256 * j.val + d.val; rw [h]; show j.val * 256 + 1 * d.val = _; omega

theorem blk8 (c : Dev nD) (e : Fin 8) (j : Fin 11) (d : Fin 256) :
    iblk1 V c 8 (pt (22 * e.val + 11 + j.val)) (ix3 0 0 d) = V c main_v4 (ix3 e 0 ⟨256 * j.val + d.val, by omega⟩) := by
  have h := map8 _ e j (pt_down e j)
  unfold iblk1
  rw [View.read_apply]
  show V c main_v4 _ = V c main_v4 _
  congr 1
  funext a
  apply Fin.ext
  match a with
  | ⟨0, _⟩ => show cc1_transform_8 (grid1.coords (pt (22 * e.val + 11 + j.val))) 0 * 1 + 1 * 0 = e.val; rw [h]; show e.val * 1 + 1 * 0 = e.val; omega
  | ⟨1, _⟩ => show cc1_transform_8 (grid1.coords (pt (22 * e.val + 11 + j.val))) 1 * 1 + 1 * 0 = 0; rw [h]; rfl
  | ⟨2, _⟩ => show cc1_transform_8 (grid1.coords (pt (22 * e.val + 11 + j.val))) 2 * 256 + 1 * d.val = 256 * j.val + d.val; rw [h]; show j.val * 256 + 1 * d.val = _; omega

end Cert.KernelIdeal.Value
-- ==== Proof.Value.ExpertsValue.lean ====
/- What the experts' kernel leaves in its accumulator: the sum over the experts of the layer's weighted outputs. -/
module

public import proofs.«01_k».proof.Proof.Value.KernelPay
public import proofs.«01_k».proof.Proof.Value.KernelBlocks

@[expose] public section

set_option maxRecDepth 16384

noncomputable section

namespace Cert.KernelIdeal.Value

open Idealize.ShloMosaic Idealize.ShloMosaic.TcCoe Cert.KernelIdeal Cert.KernelIdeal.Gen Cert.Moe

variable (V : (c : Dev nD) → (b : Ref sig .tc) → Buf (Elt Ideal) ((c : Thread nD τ).loc b))
variable (X : Fin 1024 → Fin 2816 → EReal) (WR : Fin 2816 → Fin 8 → EReal) (WU : Fin 8 → Fin 2816 → Fin 5632 → EReal)
  (SU : Fin 8 → Fin 5632 → EReal) (WD : Fin 8 → Fin 2816 → Fin 2816 → EReal) (SD : Fin 8 → Fin 2816 → EReal)

/-- The arrays the experts' kernel finds: the router's codes, scales and gates, and the weights with their scales. -/
structure Finds (c : Dev nD) : Prop where
  codes : ∀ r k, V c main_v1_0 (ix2 r k) = code (X r k) (rowMax (X r))
  scales : ∀ r, V c main_v1_1 (ix2 r 0) = scale (rowMax (X r))
  gates : ∀ r e, V c main_v1_2 (ix2 r e) = gateR (logit X WR r) e
  up : ∀ e k f, V c main_arg2 (ix3 e k f) = WU e k f
  upScale : ∀ e f, V c main_v2 (ix3 e 0 f) = SU e f
  upScale' : ∀ e f, V c main_v3 (ix3 e 0 f) = SU e f
  down : ∀ e k d, V c main_arg4 (ix3 e k d) = WD e k d
  downScale : ∀ e d, V c main_v4 (ix3 e 0 d) = SD e d

variable {V X WR WU SU WD SD}

theorem loc_ix (r : Fin 1024) (f : Fin 2816) : loc (ix2 r f) = ix2 r ⟨f.val % 256, Nat.mod_lt _ (by decide)⟩ := by
  funext a
  match a with
  | ⟨0, _⟩ => rfl
  | ⟨1, _⟩ => rfl

theorem glob_loc (r : Fin 1024) (f : Fin 2816) : glob (f.val / 256) (loc (ix2 r f)) = ix2 r f := by
  funext a
  match a with
  | ⟨0, _⟩ => rfl
  | ⟨1, _⟩ => exact Fin.ext (show (256 * (f.val / 256) + f.val % 256) % 2816 = f.val by omega)

/-- The activations of expert `e`. -/
theorem actE_at {c : Dev nD} (H : Finds V X WR WU SU WD SD c) (e : Fin 8) (r : Fin 1024) (f : Fin 2816) :
    actE V c e.val (ix2 r f) = act X WU SU e r f := by
  have hj : f.val / 256 < 11 := by omega
  have hf : 256 * (f.val / 256) + f.val % 256 = f.val := by omega
  show upBlk V c (22 * e.val + f.val / 256) (loc (ix2 r f)) = _
  rw [loc_ix]
  unfold upBlk
  rw [up_at]
  have h3 := fun k => blk3 V c e ⟨f.val / 256, hj⟩ k ⟨f.val % 256, Nat.mod_lt _ (by decide)⟩
  have h4 := fun k => blk4 V c e ⟨f.val / 256, hj⟩ k ⟨f.val % 256, Nat.mod_lt _ (by decide)⟩
  have h5 := blk5 V c e ⟨f.val / 256, hj⟩ ⟨f.val % 256, Nat.mod_lt _ (by decide)⟩
  have h6 := blk6 V c e ⟨f.val / 256, hj⟩ ⟨f.val % 256, Nat.mod_lt _ (by decide)⟩
  simp only [hf, H.up, H.upScale, H.upScale'] at h3 h4 h5 h6
  simp only [blk0, blk1, h3, h4, h5, h6, H.codes, H.scales]
  rfl

theorem act_row {c : Dev nD} (H : Finds V X WR WU SU WD SD c) (e : Fin 8) (r : Fin 1024) :
    (fun k => actE V c e.val (ix2 r k)) = act X WU SU e r := funext fun k => actE_at H e r k

/-- Their codes. -/
theorem acE_at {c : Dev nD} (H : Finds V X WR WU SU WD SD c) (e : Fin 8) (r : Fin 1024) (k : Fin 2816) :
    acE V c e.val (ix2 r k) = code (act X WU SU e r k) (rowMax (act X WU SU e r)) := by
  unfold acE
  rw [codes1_at, act_row H, actE_at H]

/-- Their scale times the expert's gate. -/
theorem asE_at {c : Dev nD} (H : Finds V X WR WU SU WD SD c) (e : Fin 8) (r : Fin 1024) :
    asE V c e.val (ix2 r 0) = scale (rowMax (act X WU SU e r)) * gateR (logit X WR r) e := by
  have hc : (grid1.coords (pt (22 * e.val + 11)) 0).val = e.val := (pt_down e 0).1
  unfold asE
  rw [gate1_at _ e hc, scale1_at, act_row H, blk2, H.gates]

/-- The accumulator after `n` experts, one at the least. -/
theorem accE_at {c : Dev nD} (H : Finds V X WR WU SU WD SD c) (r : Fin 1024) (d : Fin 2816) :
    ∀ n : ℕ, 0 < n → n ≤ 8 → accE V c n (ix2 r d) = ∑ i ∈ Finset.range n, if h : i < 8 then part X WR WU SU WD SD ⟨i, h⟩ r d else 0
  | 0, h, _ => absurd h (lt_irrefl 0)
  | n + 1, _, hn => by
    have hj : d.val / 256 < 11 := by omega
    have hd : 256 * (d.val / 256) + d.val % 256 = d.val := by omega
    have hn8 : n < 8 := by omega
    rw [Finset.sum_range_succ, dif_pos hn8]
    show downBlk V c n (22 * n + 11 + d.val / 256) (stripe (accE V c n) (d.val / 256)) (loc (ix2 r d)) = _
    unfold downBlk
    have hst : stripe (accE V c n) (d.val / 256) (loc (ix2 r d)) = accE V c n (ix2 r d) := by
      show accE V c n (glob (d.val / 256) (loc (ix2 r d))) = _
      rw [glob_loc]
    rw [loc_ix] at hst ⊢
    have h7 := fun k => blk7 V c ⟨n, hn8⟩ ⟨d.val / 256, hj⟩ k ⟨d.val % 256, Nat.mod_lt _ (by decide)⟩
    have h8 := blk8 V c ⟨n, hn8⟩ ⟨d.val / 256, hj⟩ ⟨d.val % 256, Nat.mod_lt _ (by decide)⟩
    have hc := (pt_down ⟨n, hn8⟩ ⟨d.val / 256, hj⟩).1
    have hq := acE_at H ⟨n, hn8⟩ r
    have hs := asE_at H ⟨n, hn8⟩ r
    simp only [hd, H.down, H.downScale] at h7 h8 hc hq hs
    rw [down_at, hst, hs, h8, hc]
    simp only [h7, hq]
    congr 1
    by_cases h0 : n = 0
    · subst h0; simp
    · rw [if_neg h0, accE_at H r d n (by omega) (by omega)]

/-- After all of them: the layer. -/
theorem accE_eight {c : Dev nD} (H : Finds V X WR WU SU WD SD c) (r : Fin 1024) (d : Fin 2816) :
    accE V c 8 (ix2 r d) = layer X WR WU SU WD SD r d := by
  rw [accE_at H r d 8 (by omega) le_rfl, Finset.sum_range]
  exact Finset.sum_congr rfl fun e _ => dif_pos e.isLt

end Cert.KernelIdeal.Value
-- ==== Proof.Value.KernelValue.lean ====
/- The kernel's result array: the layer of its arguments. -/
module

public import proofs.«01_k».proof.Proof.Value.ExpertsValue
public import Idealize.ShloMosaic.Lib.Pipeline.Value

@[expose] public section

set_option maxRecDepth 16384

noncomputable section

namespace Cert.KernelIdeal.Value

open Idealize.ShloMosaic Idealize.ShloMosaic.TcCoe Idealize.SL.Sem Cert.KernelIdeal Cert.KernelIdeal.Gen Cert.Moe

variable (V : (c : Dev nD) → (b : Ref sig .tc) → Buf (Elt Ideal) ((c : Thread nD τ).loc b))

theorem hz : (![0, 0] : Fin 2 → Nat) = fun _ => 0 := funext fun a => by fin_cases a <;> rfl

/-! ## The arrays after each pipeline -/

/-- The experts' one output block is the whole array, written back from the accumulator after the last point. -/
theorem final9 (c : Dev nD) : (dat1 V c).arrAt 9 cfg1.N = (k1_pay5 (accE V c 8) : Vec Ideal S1024x2816 .bf16) := by
  have hz9 : ∀ t : Fin cfg1.N, (fun a => win1_9.index t a * main_v5.ty.shape.size a) = fun _ => 0 := fun t => funext fun a => by
    fin_cases a <;> exact Nat.zero_mul _
  have hN : cfg1.N = 176 := N_1
  refine (dat1 V c).arrAt_eq_of_cover 9 _ (fun t _ => ?_) fun i => ⟨pt 175, (flush1_9 _).mpr rfl, ?_⟩
  · show (cfg1.win 9).cut (grid1.coords t) ((dat1 V c).after 9 t) = _
    rw [after1_9]
    exact (Memref.read_access_unit_zero (Elt Ideal) main_v5 (hz9 t) (fun a => by rw [congrFun (hz9 t) a]; simp) _).symm
  · have h : ((View.whole main_v5).slice (win1_9.rect (pt 175))).set = Finset.univ := by
      rw [View.set_slice_whole]
      exact Finset.eq_univ_iff_forall.mpr fun i => View.mem_set_unit_zero (hz9 _) _ i
    exact h ▸ Finset.mem_univ i

/-- The router's pipeline has one point. -/
def only : Fin cfg0.N := ⟨0, by rw [show cfg0.N = 1 from N_0]; decide⟩

theorem point_only (t : Fin cfg0.N) : t = only := by
  have h : cfg0.N = 1 := N_0
  exact Fin.ext (show t.val = 0 by omega)

/-! The router's output arrays: its stored values. -/

theorem final0_2 (c : Dev nD) : (dat0 V c).arrAt 2 cfg0.N = (out0_2 (iblk0 V c 0 only) (iblk0 V c 1 only) : Vec Ideal S1024x2816 .fp8e4m3) := by
  have hz' : ∀ t : Fin cfg0.N, (fun a => win0_2.index t a * main_v1_0.ty.shape.size a) = fun _ => 0 := fun t => funext fun a => by
    fin_cases a <;> exact Nat.zero_mul _
  refine (dat0 V c).arrAt_eq_of_cover 2 _ (fun t _ => ?_) fun i => ⟨only, flush0_2 only, ?_⟩
  · show (cfg0.win 2).cut (grid0.coords t) ((dat0 V c).after 2 t) = _
    rw [after0_2, point_only t]
    exact (Memref.read_access_unit_zero (Elt Ideal) main_v1_0 (hz' only) (fun a => by rw [congrFun (hz' only) a]; simp) _).symm
  · have h : ((View.whole main_v1_0).slice (win0_2.rect only)).set = Finset.univ := by
      rw [View.set_slice_whole]
      exact Finset.eq_univ_iff_forall.mpr fun i => View.mem_set_unit_zero (hz' only) _ i
    exact h ▸ Finset.mem_univ i

theorem final0_3 (c : Dev nD) : (dat0 V c).arrAt 3 cfg0.N = (out0_3 (iblk0 V c 0 only) (iblk0 V c 1 only) : Vec Ideal S1024x1 .f32) := by
  have hz' : ∀ t : Fin cfg0.N, (fun a => win0_3.index t a * main_v1_1.ty.shape.size a) = fun _ => 0 := fun t => funext fun a => by
    fin_cases a <;> exact Nat.zero_mul _
  refine (dat0 V c).arrAt_eq_of_cover 3 _ (fun t _ => ?_) fun i => ⟨only, flush0_3 only, ?_⟩
  · show (cfg0.win 3).cut (grid0.coords t) ((dat0 V c).after 3 t) = _
    rw [after0_3, point_only t]
    exact (Memref.read_access_unit_zero (Elt Ideal) main_v1_1 (hz' only) (fun a => by rw [congrFun (hz' only) a]; simp) _).symm
  · have h : ((View.whole main_v1_1).slice (win0_3.rect only)).set = Finset.univ := by
      rw [View.set_slice_whole]
      exact Finset.eq_univ_iff_forall.mpr fun i => View.mem_set_unit_zero (hz' only) _ i
    exact h ▸ Finset.mem_univ i

theorem final0_4 (c : Dev nD) : (dat0 V c).arrAt 4 cfg0.N = (out0_4 (iblk0 V c 0 only) (iblk0 V c 1 only) : Vec Ideal S1024x8 .f32) := by
  have hz' : ∀ t : Fin cfg0.N, (fun a => win0_4.index t a * main_v1_2.ty.shape.size a) = fun _ => 0 := fun t => funext fun a => by
    fin_cases a <;> exact Nat.zero_mul _
  refine (dat0 V c).arrAt_eq_of_cover 4 _ (fun t _ => ?_) fun i => ⟨only, flush0_4 only, ?_⟩
  · show (cfg0.win 4).cut (grid0.coords t) ((dat0 V c).after 4 t) = _
    rw [after0_4, point_only t]
    exact (Memref.read_access_unit_zero (Elt Ideal) main_v1_2 (hz' only) (fun a => by rw [congrFun (hz' only) a]; simp) _).symm
  · have h : ((View.whole main_v1_2).slice (win0_4.rect only)).set = Finset.univ := by
      rw [View.set_slice_whole]
      exact Finset.eq_univ_iff_forall.mpr fun i => View.mem_set_unit_zero (hz' only) _ i
    exact h ▸ Finset.mem_univ i

/-! ## The stores, as values -/

theorem out2_eq (x : Vec Ideal S1024x2816 .bf16) (w : Vec Ideal S2816x8 .f32) :
    out0_2 x w = k0_pay3 (k0_pay4 x) (k0_pay13 (k0_pay4 x)) (k0_pay14 (k0_pay4 x)) (k0_pay15 (k0_pay4 x)) := by
  unfold out0_2
  rw [View.canon_unit_zero hz]
  unfold k0_pay17 k0_pay18 k0_pay19 k0_pay16
  rw [View.ld_unit_zero (S := S1024x2816) hz]

theorem out3_eq (x : Vec Ideal S1024x2816 .bf16) (w : Vec Ideal S2816x8 .f32) :
    out0_3 x w = k0_pay2 (k0_pay13 (k0_pay4 x)) (k0_pay14 (k0_pay4 x)) (k0_pay15 (k0_pay4 x)) := by
  unfold out0_3
  rw [View.canon_unit_zero hz]
  unfold k0_pay17 k0_pay18 k0_pay19 k0_pay16
  rw [View.ld_unit_zero (S := S1024x2816) hz]

theorem out4_eq (x : Vec Ideal S1024x2816 .bf16) (w : Vec Ideal S2816x8 .f32) :
    out0_4 x w = k0_pay12 (k0_pay5 x w) (iota .tc S1024x8 32 [1] iota_S1024x8_d1_w32) (k0_pay9 x w) (k0_pay10 x w) (k0_pay11 x w) := by
  unfold out0_4
  rw [View.canon_unit_zero hz]
  rw [View.ld_unit_zero (S := S1024x2816) hz, View.ld_unit_zero (S := S2816x8) hz]

theorem in0_0 (c : Dev nD) : (iblk0 V c 0 only : Vec Ideal S1024x2816 .bf16) = V c main_v0 := by
  funext j
  unfold iblk0
  rw [View.read_apply]
  show V c main_v0 _ = V c main_v0 _
  congr 1
  funext a
  apply Fin.ext
  match a with
  | ⟨0, _⟩ => show 0 * 1024 + 1 * (j 0).val = (j 0).val; omega
  | ⟨1, _⟩ => show 0 * 2816 + 1 * (j 1).val = (j 1).val; omega

theorem in0_1 (c : Dev nD) : (iblk0 V c 1 only : Vec Ideal S2816x8 .f32) = V c main_arg1 := by
  funext j
  unfold iblk0
  rw [View.read_apply]
  show V c main_arg1 _ = V c main_arg1 _
  congr 1
  funext a
  apply Fin.ext
  match a with
  | ⟨0, _⟩ => show 0 * 2816 + 1 * (j 0).val = (j 0).val; omega
  | ⟨1, _⟩ => show 0 * 8 + 1 * (j 1).val = (j 1).val; omega

end Cert.KernelIdeal.Value
-- ==== Proof.Value.KernelResult.lean ====
/- The kernel's run, as a value: its result array holds the layer of its arguments. -/
module

public import proofs.«01_k».proof.Proof.Value.KernelValue
public import proofs.«01_k».proof.Proof.KernelIdeal.Run

@[expose] public section

set_option maxRecDepth 16384

noncomputable section

namespace Cert.KernelIdeal.Value

open Idealize.ShloMosaic Idealize.ShloMosaic.TcCoe Idealize.SL.Sem Idealize.ShloMosaic.StableHlo Cert.KernelIdeal Cert.KernelIdeal.Gen Cert.Moe

variable (m : (b : Loc nD τ sig) → Buf (Elt Ideal) b) (ρ : Dev nD → PrngReg)

/-! ## The reshapes around the two pipelines, read at an index -/

theorem tokens_at (x : Vec Ideal S1x1024x2816 .bf16) (r : Fin 1024) (k : Fin 2816) :
    shapeCast S1024x2816 x shapeCasts_S1x1024x2816_S1024x2816 (ix2 r k) = x (ix3 0 r k) := by
  pointwise

theorem upScale_at (x : Vec Ideal S8x5632 .f32) (e : Fin 8) (f : Fin 5632) :
    shapeCast S8x1x5632 x shapeCasts_S8x5632_S8x1x5632 (ix3 e 0 f) = x (ix2 e f) := by
  pointwise

theorem downScale_at (x : Vec Ideal S8x2816 .f32) (e : Fin 8) (f : Fin 2816) :
    shapeCast S8x1x2816 x shapeCasts_S8x2816_S8x1x2816 (ix3 e 0 f) = x (ix2 e f) := by
  pointwise

theorem back_at (x : Vec Ideal S1024x2816 .bf16) (r : Fin 1024) (d : Fin 2816) :
    shapeCast S1x1024x2816 x shapeCasts_S1024x2816_S1x1024x2816 (ix3 0 r d) = x (ix2 r d) := by
  pointwise

theorem V1_v0 (c : Dev nD) (r : Fin 1024) (k : Fin 2816) :
    V1 (F := Ideal) m ρ c main_v0 (ix2 r k) = m ((c : Thread nD τ).loc main_arg0) (ix3 0 r k) := by
  have h : V1 (F := Ideal) m ρ c main_v0 = shapeCast S1024x2816 (m ((c : Thread nD τ).loc main_arg0)) shapeCasts_S1x1024x2816_S1024x2816 := by
    show StableHlo.after _ _ _ = _
    after_results
    try rfl
  rw [h]
  exact tokens_at _ r k

theorem V3_v2 (c : Dev nD) (e : Fin 8) (f : Fin 5632) :
    V3 (F := Ideal) m ρ c main_v2 (ix3 e 0 f) = m ((c : Thread nD τ).loc main_arg3) (ix2 e f) := by
  have h : V3 (F := Ideal) m ρ c main_v2 = shapeCast S8x1x5632 (W2 (F := Ideal) m ρ c main_arg3) shapeCasts_S8x5632_S8x1x5632 := by
    show StableHlo.after _ _ _ = _
    after_results
    try rfl
  rw [h, W2_args (F := Ideal) m ρ c main_arg3 (by decide)]
  exact upScale_at _ e f

theorem V3_v3 (c : Dev nD) (e : Fin 8) (f : Fin 5632) :
    V3 (F := Ideal) m ρ c main_v3 (ix3 e 0 f) = m ((c : Thread nD τ).loc main_arg3) (ix2 e f) := by
  have h : V3 (F := Ideal) m ρ c main_v3 = shapeCast S8x1x5632 (W2 (F := Ideal) m ρ c main_arg3) shapeCasts_S8x5632_S8x1x5632 := by
    show StableHlo.after _ _ _ = _
    after_results
    try rfl
  rw [h, W2_args (F := Ideal) m ρ c main_arg3 (by decide)]
  exact upScale_at _ e f

theorem V3_v4 (c : Dev nD) (e : Fin 8) (f : Fin 2816) :
    V3 (F := Ideal) m ρ c main_v4 (ix3 e 0 f) = m ((c : Thread nD τ).loc main_arg5) (ix2 e f) := by
  have h : V3 (F := Ideal) m ρ c main_v4 = shapeCast S8x1x2816 (W2 (F := Ideal) m ρ c main_arg5) shapeCasts_S8x2816_S8x1x2816 := by
    show StableHlo.after _ _ _ = _
    after_results
    try rfl
  rw [h, W2_args (F := Ideal) m ρ c main_arg5 (by decide)]
  exact downScale_at _ e f

/-! ## The arguments, as the layer's functions -/

abbrev argX (c : Dev nD) : Fin 1024 → Fin 2816 → EReal := fun t k => m ((c : Thread nD τ).loc main_arg0) (ix3 0 t k)
abbrev argWR (c : Dev nD) : Fin 2816 → Fin 8 → EReal := fun k e => m ((c : Thread nD τ).loc main_arg1) (ix2 k e)
abbrev argWU (c : Dev nD) : Fin 8 → Fin 2816 → Fin 5632 → EReal := fun e k f => m ((c : Thread nD τ).loc main_arg2) (ix3 e k f)
abbrev argSU (c : Dev nD) : Fin 8 → Fin 5632 → EReal := fun e f => m ((c : Thread nD τ).loc main_arg3) (ix2 e f)
abbrev argWD (c : Dev nD) : Fin 8 → Fin 2816 → Fin 2816 → EReal := fun e k d => m ((c : Thread nD τ).loc main_arg4) (ix3 e k d)
abbrev argSD (c : Dev nD) : Fin 8 → Fin 2816 → EReal := fun e d => m ((c : Thread nD τ).loc main_arg5) (ix2 e d)

/-- The tokens, widened, as the router's kernel reads them. -/
theorem row_at (c : Dev nD) (r : Fin 1024) (k : Fin 2816) :
    k0_pay4 (F := Ideal) (V1 (F := Ideal) m ρ c main_v0) (ix2 r k) = argX m c r k :=
  (pay4_at _ r k).trans (V1_v0 m ρ c r k)

theorem V3_codes (c : Dev nD) (r : Fin 1024) (k : Fin 2816) :
    V3 (F := Ideal) m ρ c main_v1_0 (ix2 r k) = code (argX m c r k) (rowMax (argX m c r)) := by
  have h : V3 (F := Ideal) m ρ c main_v1_0 = (dat0 (V1 (F := Ideal) m ρ) c).arrAt 2 cfg0.N :=
    (W3_of (F := Ideal) m ρ c main_v1_0 (by decide)).trans (W2_arr (F := Ideal) m ρ c 2)
  rw [h, final0_2, out2_eq, in0_0]
  refine (codes_at _ r k).trans ?_
  rw [row_at, funext (row_at m ρ c r)]

theorem V3_scales (c : Dev nD) (r : Fin 1024) :
    V3 (F := Ideal) m ρ c main_v1_1 (ix2 r 0) = scale (rowMax (argX m c r)) := by
  have h : V3 (F := Ideal) m ρ c main_v1_1 = (dat0 (V1 (F := Ideal) m ρ) c).arrAt 3 cfg0.N :=
    (W3_of (F := Ideal) m ρ c main_v1_1 (by decide)).trans (W2_arr (F := Ideal) m ρ c 3)
  rw [h, final0_3, out3_eq, in0_0]
  refine (scale_at _ r).trans ?_
  rw [funext (row_at m ρ c r)]

theorem V3_gates (c : Dev nD) (r : Fin 1024) (e : Fin 8) :
    V3 (F := Ideal) m ρ c main_v1_2 (ix2 r e) = gateR (logit (argX m c) (argWR m c) r) e := by
  have h : V3 (F := Ideal) m ρ c main_v1_2 = (dat0 (V1 (F := Ideal) m ρ) c).arrAt 4 cfg0.N :=
    (W3_of (F := Ideal) m ρ c main_v1_2 (by decide)).trans (W2_arr (F := Ideal) m ρ c 4)
  have hw : V1 (F := Ideal) m ρ c main_arg1 = m ((c : Thread nD τ).loc main_arg1) := W1_args (F := Ideal) m ρ c main_arg1 (by decide)
  have hx : (fun t k => V1 (F := Ideal) m ρ c main_v0 (ix2 t k)) = argX m c := funext fun t => funext fun k => V1_v0 m ρ c t k
  rw [h, final0_4, out4_eq, in0_0, in0_1, hw]
  refine (gate_at _ _ r e).trans ?_
  rw [gate_eq]
  congr 1
  funext e'
  refine (logit_at _ _ r e').trans ?_
  exact congrArg (fun X => logit X (argWR m c) r e') hx

theorem finds (c : Dev nD) :
    Finds (V3 (F := Ideal) m ρ) (argX m c) (argWR m c) (argWU m c) (argSU m c) (argWD m c) (argSD m c) c where
  codes := V3_codes m ρ c
  scales := V3_scales m ρ c
  gates := V3_gates m ρ c
  up e k f := congrFun (W3_args (F := Ideal) m ρ c main_arg2 (by decide)) (ix3 e k f)
  upScale := V3_v2 m ρ c
  upScale' := V3_v3 m ρ c
  down e k d := congrFun (W3_args (F := Ideal) m ρ c main_arg4 (by decide)) (ix3 e k d)
  downScale := V3_v4 m ρ c

theorem narrow_at (x : Vec Ideal S1024x2816 .f32) (r : Fin 1024) (d : Fin 2816) : k1_pay5 (F := Ideal) x (ix2 r d) = x (ix2 r d) := by
  pointwise [k1_pay5]

/-- The kernel's result array, after the run, holds the layer of its arguments. -/
theorem result (c : Dev nD) (r : Fin 1024) (d : Fin 2816) :
    W5 (F := Ideal) m ρ c main_v6 (ix3 0 r d)
      = layer (argX m c) (argWR m c) (argWU m c) (argSU m c) (argWD m c) (argSD m c) r d := by
  have h : W5 (F := Ideal) m ρ c main_v6 = shapeCast S1x1024x2816 (W4 (F := Ideal) m ρ c main_v5) shapeCasts_S1024x2816_S1x1024x2816 := by
    show StableHlo.after _ _ _ = _
    after_results
    try rfl
  have h4 : W4 (F := Ideal) m ρ c main_v5 = (dat1 (V3 (F := Ideal) m ρ) c).arrAt 9 cfg1.N := W4_arr (F := Ideal) m ρ c 9
  rw [h, h4, final9]
  refine (back_at _ r d).trans ((narrow_at _ r d).trans ?_)
  exact accE_eight (finds m ρ c) r d

end Cert.KernelIdeal.Value
-- ==== Proof.Value.ReferenceGate.lean ====
/- The reference's gates: what its operations on the host leave, read at an index. -/
module

public import proofs.«01_k».proof.Proof.Gen.ReferenceIdeal.Frame
public import proofs.«01_k».proof.Proof.Value.Spec

@[expose] public section

set_option maxRecDepth 16384

noncomputable section

namespace Cert.ReferenceIdeal.Value

open Idealize.ShloMosaic Idealize.ShloMosaic.TcCoe Idealize.ShloMosaic.StableHlo Cert.ReferenceIdeal Cert.ReferenceIdeal.Gen Cert.Moe

/-! ## The host's arrays, one after another -/

/-- The router's logits. -/
def logits (x : FVec Ideal S1x1024x2816 .bf16) (w : FVec Ideal S2816x8 .f32) : FVec Ideal S1024x8 .f32 :=
  Host.dotGeneral dot_S1024x2816_S2816x8_S1024x8_1_0_0_1_n_n none
    (extf .f32 (shapeCast S1024x2816 x shapeCasts_S1x1024x2816_S1024x2816) bitsLt_bf16_f32) w

/-- The four largest logits of each row. -/
def largest (l : FVec Ideal S1024x8 .f32) : FVec Ideal S1024x4 .f32 :=
  (Host.topK S1024x4 1 (FloatOps.cmpfTotal .gt) l sliceFits_S1024x8_S1024x4).1

/-- Where they stand. -/
def where4 (l : FVec Ideal S1024x8 .f32) : IVec S1024x4 32 :=
  (Host.topK S1024x4 1 (FloatOps.cmpfTotal .gt) l sliceFits_S1024x8_S1024x4).2

/-- Their exponentials, the row's largest subtracted. -/
def weights (v : FVec Ideal S1024x4 .f32) : FVec Ideal S1024x4 .f32 :=
  Host.exp (subf v (broadcastInDim S1024x4 ![0, 1] bcast_S1024x1_S1024x4_0_1 (broadcastInDim S1024x1 ![0] bcast_S1024_S1024x1_0
    (Host.reduce FloatOps.maximumf v (constant S_ .f32 0xFF800000#32) reducesTo_S1024x4_S1024_d1 h_S_))))

/-- Each weight at its expert. -/
def placed (i : IVec S1024x4 32) (p : FVec Ideal S1024x4 .f32) : FVec Ideal S1024x4x8 .f32 :=
  select (cmpi .eq (broadcastInDim S1024x4x8 ![0, 1, 2] bcast_S1024x4x1_S1024x4x8_0_1_2 (broadcastInDim S1024x4x1 ![0, 1] bcast_S1024x4_S1024x4x1_0_1 i))
      (broadcastInDim S1024x4x8 ![0, 1, 2] bcast_S1x1x8_S1024x4x8_0_1_2 (broadcastInDim S1x1x8 ![2] bcast_S8_S1x1x8_2 (iotaInDim S8 32 0))))
    (broadcastInDim S1024x4x8 ![0, 1, 2] bcast_S1024x4x1_S1024x4x8_0_1_2 (broadcastInDim S1024x4x1 ![0, 1] bcast_S1024x4_S1024x4x1_0_1 p))
    (broadcastInDim S1024x4x8 ![] bcast_S_S1024x4x8 (constant (F := Ideal) S_ .f32 0x00000000#32))

/-- The gates, an expert's column after another's. -/
def gates (q : FVec Ideal S1024x4x8 .f32) (p : FVec Ideal S1024x4 .f32) : FVec Ideal S8x1024x1 .f32 :=
  broadcastInDim S8x1024x1 ![0, 1] bcast_S8x1024_S8x1024x1_0_1 (transpose S8x1024 [1, 0]
    (Host.divf (Host.reduceAdd q (constant S_ .f32 0x00000000#32) reducesTo_S1024x4x8_S1024x8_d1 h_S_)
      (broadcastInDim S1024x8 ![0, 1] bcast_S1024x1_S1024x8_0_1 (broadcastInDim S1024x1 ![0] bcast_S1024_S1024x1_0
        (Host.reduceAdd p (constant S_ .f32 0x00000000#32) reducesTo_S1024x4_S1024_d1 h_S_)))) transposes_S1024x8_S8x1024_1_0)

/-! ## Read at an index -/

theorem logits_at (x : FVec Ideal S1x1024x2816 .bf16) (w : FVec Ideal S2816x8 .f32) (r : Fin 1024) (e : Fin 8) :
    logits x w (ix2 r e) = logit (fun t k => x (ix3 0 t k)) (fun k e => w (ix2 k e)) r e := by
  unfold logit
  pointwise [logits]

theorem along_at (r : Fin 1024) (e : Fin 8) (k : Fin (S1024x8.size 1)) : (ix2 r e : S1024x8.Idx).along 1 k = ix2 r (k : Fin 8) := by
  funext a
  match a with
  | ⟨0, _⟩ => rfl
  | ⟨1, _⟩ => rfl

/-- A row's sort, at an index that is known: the position sorted to that place. -/
theorem sorted_at (l : FVec Ideal S1024x8 .f32) (r : Fin 1024) (i : Fin 8) (J : S1024x8.Idx) (hJ : J = ix2 r i) :
    J.along 1 (sortedFrom (fun k k' => FloatOps.cmpfTotal (F := Ideal) (φ := .f32) .gt (l (J.along 1 k)) (l (J.along 1 k')) == 1#1) (J 1))
      = ix2 r (place (fun e => l (ix2 r e)) i) := by
  subst hJ
  refine (along_at r i _).trans ?_
  have h : (fun k k' : Fin (S1024x8.size 1) => FloatOps.cmpfTotal (F := Ideal) (φ := .f32) .gt (l ((ix2 r i : S1024x8.Idx).along 1 k)) (l ((ix2 r i : S1024x8.Idx).along 1 k')) == 1#1)
      = gt (fun e => l (ix2 r e)) := funext fun k => funext fun k' => by rw [along_at, along_at]; rfl
  rw [h]
  rfl

/-- The slice's index, in the row it is cut from. -/
theorem slice_ix (r : Fin 1024) (j : Fin 4) (J : S1024x8.Idx) (h0 : (J 0).val = 0 + r.val) (h1 : (J 1).val = 0 + j.val) :
    J = ix2 r ⟨j.val, by omega⟩ := by
  funext a
  apply Fin.ext
  match a with
  | ⟨0, _⟩ => exact h0.trans (Nat.zero_add _)
  | ⟨1, _⟩ => exact h1.trans (Nat.zero_add _)

theorem largest_at (l : FVec Ideal S1024x8 .f32) (r : Fin 1024) (j : Fin 4) :
    largest l (ix2 r j) = l (ix2 r (at4 (fun e => l (ix2 r e)) j)) := by
  unfold largest Host.topK extractStridedSlice Host.sort2
  dsimp only
  rw [dif_pos (show 1 < S1024x8.rank by decide)]
  exact congrArg l (sorted_at l r ⟨j.val, by omega⟩ _ (slice_ix r j _ rfl rfl))

theorem where4_at (l : FVec Ideal S1024x8 .f32) (r : Fin 1024) (j : Fin 4) :
    where4 l (ix2 r j) = BitVec.ofNat 32 (at4 (fun e => l (ix2 r e)) j).val := by
  unfold where4 Host.topK extractStridedSlice Host.sort2
  dsimp only
  rw [dif_pos (show 1 < S1024x8.rank by decide)]
  dsimp only
  rw [dif_pos (show 1 < S1024x8.rank by decide)]
  exact congrArg (fun J : S1024x8.Idx => BitVec.ofNat 32 (J 1).val) (sorted_at l r ⟨j.val, by omega⟩ _ (slice_ix r j _ rfl rfl))

theorem weights_at (v : FVec Ideal S1024x4 .f32) (r : Fin 1024) (j : Fin 4) :
    weights v (ix2 r j) = Ideal.exp (v (ix2 r j) - top fun k : Fin 4 => v (ix2 r k)) := by
  pointwise [weights]

theorem placed_at (i : IVec S1024x4 32) (p : FVec Ideal S1024x4 .f32) (r : Fin 1024) (j : Fin 4) (e : Fin 8) :
    placed i p (ix3 r j e) = Scalar.select (IntOp.cmpi .eq (i (ix2 r j)) (BitVec.ofNat 32 e.val)) (p (ix2 r j)) (0 : EReal) := by
  pointwise [placed]

theorem gates_at (q : FVec Ideal S1024x4x8 .f32) (p : FVec Ideal S1024x4 .f32) (r : Fin 1024) (e : Fin 8) :
    gates q p (ix3 e r 0) = Ideal.div (∑ j : Fin 4, q (ix3 r j e)) (∑ j : Fin 4, p (ix2 r j)) := by
  pointwise [gates]

/-- The gates of every row, from the tokens and the router's weights. -/
theorem gate_at (x : FVec Ideal S1x1024x2816 .bf16) (w : FVec Ideal S2816x8 .f32) (r : Fin 1024) (e : Fin 8) :
    gates (placed (where4 (logits x w)) (weights (largest (logits x w)))) (weights (largest (logits x w))) (ix3 e r 0)
      = gateR (logit (fun t k => x (ix3 0 t k)) (fun k e => w (ix2 k e)) r) e := by
  have hl : (fun e => logits x w (ix2 r e)) = logit (fun t k => x (ix3 0 t k)) (fun k e => w (ix2 k e)) r := funext (logits_at x w r)
  have hv : ∀ j : Fin 4, weights (largest (logits x w)) (ix2 r j)
      = weight4 (logit (fun t k => x (ix3 0 t k)) (fun k e => w (ix2 k e)) r) j := fun j => by
    rw [weights_at]
    simp only [largest_at, hl, logits_at]
  rw [gates_at]
  simp only [placed_at, hv, where4_at, hl]
  rfl

/-! ## The array the reference's kernel finds -/

variable (m : (ℓ : Loc nD τ sig) → Buf (Elt Ideal) ℓ)

set_option maxHeartbeats 2000000 in
/-- The gates' array, as the reference's kernel finds it: the host's operations one after another. -/
theorem V_gate (c : Dev nD) :
    V (F := Ideal) m c main_v22
      = gates (placed (where4 (logits (m ((c : Thread nD τ).loc main_arg0)) (m ((c : Thread nD τ).loc main_arg1))))
            (weights (largest (logits (m ((c : Thread nD τ).loc main_arg0)) (m ((c : Thread nD τ).loc main_arg1))))))
          (weights (largest (logits (m ((c : Thread nD τ).loc main_arg0)) (m ((c : Thread nD τ).loc main_arg1))))) := by
  show StableHlo.after _ _ _ = _
  simp only [List.flatten_cons, List.flatten_nil, List.append_nil, List.cons_append, List.nil_append]
  after_results_simp
  rfl

end Cert.ReferenceIdeal.Value

end
-- ==== Proof.Value.ReferencePay.lean ====
/- The reference's stored values, read at an index. -/
module

public import proofs.«01_k».proof.Proof.Gen.ReferenceIdeal.Skeleton
public import proofs.«01_k».proof.Proof.Value.Spec

@[expose] public section

set_option maxRecDepth 16384

noncomputable section

namespace Cert.ReferenceIdeal.Value

open Idealize.ShloMosaic Cert.ReferenceIdeal Cert.ReferenceIdeal.Gen Cert.Moe

/-- The exponent search of a row maximum `A`. -/
def search1 (A : FVec Ideal S1x1024x1 .f32) : IVec S1x1024x1 32 :=
  select (cmpf .oeq A (broadcast S1x1024x1 (FloatOps.ofBits .f32 0#32))) (broadcast S1x1024x1 0#32)
      (select
        (andi (cmpf .ogt (absf (mulf A (broadcast S1x1024x1 (FloatOps.ofBits .f32 991054117#32)))) (broadcast S1x1024x1 (FloatOps.ofBits .f32 0#32)))
          (cmpf .olt (absf (mulf A (broadcast S1x1024x1 (FloatOps.ofBits .f32 991054117#32)))) (broadcast S1x1024x1 (FloatOps.ofBits .f32 2139095040#32))))
        (shapeCast S1x1024x1 (multiReductionI .minsi [2] S1x1024
          (select (cmpf .olt (broadcastTo S1x1024x253 (absf (mulf A (broadcast S1x1024x1 (FloatOps.ofBits .f32 991054117#32)))) broadcasts_S1x1024x1_S1x1024x253)
              (exp2 (sitofp .f32 (subi (iota .tc S1x1024x253 32 [2] iota_S1x1024x253_d2_w32) (broadcast S1x1024x253 126#32)))))
            (subi (iota .tc S1x1024x253 32 [2] iota_S1x1024x253_d2_w32) (broadcast S1x1024x253 126#32)) (broadcast S1x1024x253 126#32))
          2147483647#32 reduces_S1x1024x253_S1x1024 rfl) shapeCasts_S1x1024_S1x1024x1)
        (broadcast S1x1024x1 0#32))

theorem lane1_at (r : Fin 1024) (x : Fin 253) :
    subi (iota .tc S1x1024x253 32 [2] iota_S1x1024x253_d2_w32) (broadcast S1x1024x253 126#32) (ix3 0 r x) = lane x := by
  unfold lane
  pointwise

theorem below1_at (a : FVec Ideal S1x1024x1 .f32) (L : IVec S1x1024x253 32) (r : Fin 1024) (x : Fin 253) :
    select (cmpf .olt (broadcastTo S1x1024x253 a broadcasts_S1x1024x1_S1x1024x253) (exp2 (sitofp .f32 L))) L (broadcast S1x1024x253 126#32) (ix3 0 r x)
     = if a (ix3 0 r 0) < powExp (L (ix3 0 r x)) then L (ix3 0 r x) else 126#32 := by
  unfold powExp
  pointwise

theorem absf1_at (a : FVec Ideal S1x1024x1 .f32) (j : S1x1024x1.Idx) : absf a j = FloatOps.absf (a j) := rfl

theorem mean1_at (a : FVec Ideal S1x1024x1 .f32) (r : Fin 1024) :
    mulf a (broadcast S1x1024x1 (FloatOps.ofBits .f32 991054117#32)) (ix3 0 r 0) = a (ix3 0 r 0) * Ideal.ofBits FTy.f32 991054117#32 := by
  pointwise

theorem pick1_at (A B : FVec Ideal S1x1024x1 .f32) (L : IVec S1x1024x253 32) (r : Fin 1024)
    (hb : B (ix3 0 r 0) = A (ix3 0 r 0) * Ideal.ofBits FTy.f32 991054117#32)
    (hL : ∀ x, L (ix3 0 r x) = if FloatOps.absf (F := Ideal) (φ := .f32) (B (ix3 0 r 0)) < powExp (lane x) then lane x else 126#32) :
    select (cmpf .oeq A (broadcast S1x1024x1 (FloatOps.ofBits .f32 0#32))) (broadcast S1x1024x1 0#32)
      (select
        (andi (cmpf .ogt (absf B) (broadcast S1x1024x1 (FloatOps.ofBits .f32 0#32)))
          (cmpf .olt (absf B) (broadcast S1x1024x1 (FloatOps.ofBits .f32 2139095040#32))))
        (shapeCast S1x1024x1 (multiReductionI .minsi [2] S1x1024 L 2147483647#32 reduces_S1x1024x253_S1x1024 rfl) shapeCasts_S1x1024_S1x1024x1)
        (broadcast S1x1024x1 0#32)) (ix3 0 r 0) = expo powExp (A (ix3 0 r 0)) := by
  rw [hb] at hL
  unfold expo
  pointwise
  simp only [hb, hL]

/-- The exponent search of a row maximum `A`, read at a row. -/
theorem search1_at (A : FVec Ideal S1x1024x1 .f32) (r : Fin 1024) :
    search1 A (ix3 0 r 0) = expo powExp (A (ix3 0 r 0)) := by
  refine pick1_at A _ _ r (mean1_at A r) fun x => ?_
  rw [below1_at, lane1_at, absf1_at]

theorem wide_at (x : Vec Ideal S1x1024x2816 .bf16) (r : Fin 1024) (k : Fin 2816) : k0_pay2 (F := Ideal) x (ix3 0 r k) = x (ix3 0 r k) := by
  pointwise [k0_pay2]

theorem rowMax1_at (x : FVec Ideal S1x1024x2816 .f32) (r : Fin 1024) :
    shapeCast S1x1024x1 (multiReduction (F := Ideal) .maximumf [2] S1x1024 (absf x) 0xFF800000#32 reduces_S1x1024x2816_S1x1024 (.inl rfl) rfl) shapeCasts_S1x1024_S1x1024x1 (ix3 0 r 0)
      = (rowMax fun k => x (ix3 0 r k) : Ideal .f32) := by
  unfold rowMax
  pointwise

theorem expo_eq_search (x : Vec Ideal S1x1024x2816 .bf16) : k0_pay3 (F := Ideal) x
    = search1 (shapeCast S1x1024x1 (multiReduction .maximumf [2] S1x1024 (absf (k0_pay2 (F := Ideal) x)) 0xFF800000#32 reduces_S1x1024x2816_S1x1024 (.inl rfl) rfl) shapeCasts_S1x1024_S1x1024x1) := rfl

theorem expo_at (x : Vec Ideal S1x1024x2816 .bf16) (r : Fin 1024) :
    k0_pay3 (F := Ideal) x (ix3 0 r 0) = expo powExp (rowMax fun k => x (ix3 0 r k)) := by
  rw [expo_eq_search, search1_at, rowMax1_at]
  simp only [wide_at]

theorem codes_at (x : Vec Ideal S1x1024x2816 .bf16) (r : Fin 1024) (k : Fin 2816) :
    k0_pay4 (F := Ideal) x (ix3 0 r k) = code (x (ix3 0 r k)) (rowMax fun k => x (ix3 0 r k)) := by
  unfold code Cert.Moe.inv
  rw [← expo_at, ← wide_at x]
  unfold powExp
  pointwise [k0_pay4]

theorem scale_at (x : Vec Ideal S1x1024x2816 .bf16) (r : Fin 1024) :
    FloatOps.exp2 (F := Ideal) (φ := .f32) (k0_pay5 (F := Ideal) x (ix3 0 r 0)) = scale (rowMax fun k => x (ix3 0 r k)) := by
  unfold scale
  rw [← expo_at]
  unfold powExp
  pointwise [k0_pay5]

/-- The exponent search of a row maximum `A`. -/
def search8 (A : FVec Ideal S8x1024x1 .f32) : IVec S8x1024x1 32 :=
  select (cmpf .oeq A (broadcast S8x1024x1 (FloatOps.ofBits .f32 0#32))) (broadcast S8x1024x1 0#32)
      (select
        (andi (cmpf .ogt (absf (mulf A (broadcast S8x1024x1 (FloatOps.ofBits .f32 991054117#32)))) (broadcast S8x1024x1 (FloatOps.ofBits .f32 0#32)))
          (cmpf .olt (absf (mulf A (broadcast S8x1024x1 (FloatOps.ofBits .f32 991054117#32)))) (broadcast S8x1024x1 (FloatOps.ofBits .f32 2139095040#32))))
        (shapeCast S8x1024x1 (multiReductionI .minsi [2] S8x1024
          (select (cmpf .olt (broadcastTo S8x1024x253 (absf (mulf A (broadcast S8x1024x1 (FloatOps.ofBits .f32 991054117#32)))) broadcasts_S8x1024x1_S8x1024x253)
              (exp2 (sitofp .f32 (subi (iota .tc S8x1024x253 32 [2] iota_S8x1024x253_d2_w32) (broadcast S8x1024x253 126#32)))))
            (subi (iota .tc S8x1024x253 32 [2] iota_S8x1024x253_d2_w32) (broadcast S8x1024x253 126#32)) (broadcast S8x1024x253 126#32))
          2147483647#32 reduces_S8x1024x253_S8x1024 rfl) shapeCasts_S8x1024_S8x1024x1)
        (broadcast S8x1024x1 0#32))

theorem lane8_at (b : Fin 8) (r : Fin 1024) (x : Fin 253) :
    subi (iota .tc S8x1024x253 32 [2] iota_S8x1024x253_d2_w32) (broadcast S8x1024x253 126#32) (ix3 b r x) = lane x := by
  unfold lane
  pointwise

theorem below8_at (a : FVec Ideal S8x1024x1 .f32) (L : IVec S8x1024x253 32) (b : Fin 8) (r : Fin 1024) (x : Fin 253) :
    select (cmpf .olt (broadcastTo S8x1024x253 a broadcasts_S8x1024x1_S8x1024x253) (exp2 (sitofp .f32 L))) L (broadcast S8x1024x253 126#32) (ix3 b r x)
     = if a (ix3 b r 0) < powExp (L (ix3 b r x)) then L (ix3 b r x) else 126#32 := by
  unfold powExp
  pointwise

theorem absf8_at (a : FVec Ideal S8x1024x1 .f32) (j : S8x1024x1.Idx) : absf a j = FloatOps.absf (a j) := rfl

theorem mean8_at (a : FVec Ideal S8x1024x1 .f32) (b : Fin 8) (r : Fin 1024) :
    mulf a (broadcast S8x1024x1 (FloatOps.ofBits .f32 991054117#32)) (ix3 b r 0) = a (ix3 b r 0) * Ideal.ofBits FTy.f32 991054117#32 := by
  pointwise

theorem pick8_at (A B : FVec Ideal S8x1024x1 .f32) (L : IVec S8x1024x253 32) (b : Fin 8) (r : Fin 1024)
    (hb : B (ix3 b r 0) = A (ix3 b r 0) * Ideal.ofBits FTy.f32 991054117#32)
    (hL : ∀ x, L (ix3 b r x) = if FloatOps.absf (F := Ideal) (φ := .f32) (B (ix3 b r 0)) < powExp (lane x) then lane x else 126#32) :
    select (cmpf .oeq A (broadcast S8x1024x1 (FloatOps.ofBits .f32 0#32))) (broadcast S8x1024x1 0#32)
      (select
        (andi (cmpf .ogt (absf B) (broadcast S8x1024x1 (FloatOps.ofBits .f32 0#32)))
          (cmpf .olt (absf B) (broadcast S8x1024x1 (FloatOps.ofBits .f32 2139095040#32))))
        (shapeCast S8x1024x1 (multiReductionI .minsi [2] S8x1024 L 2147483647#32 reduces_S8x1024x253_S8x1024 rfl) shapeCasts_S8x1024_S8x1024x1)
        (broadcast S8x1024x1 0#32)) (ix3 b r 0) = expo powExp (A (ix3 b r 0)) := by
  rw [hb] at hL
  unfold expo
  pointwise
  simp only [hb, hL]

/-- The exponent search of a row maximum `A`, read at a row. -/
theorem search8_at (A : FVec Ideal S8x1024x1 .f32) (b : Fin 8) (r : Fin 1024) :
    search8 A (ix3 b r 0) = expo powExp (A (ix3 b r 0)) := by
  refine pick8_at A _ _ b r (mean8_at A b r) fun x => ?_
  rw [below8_at, lane8_at, absf8_at]

theorem rowMax8_at (a : FVec Ideal S8x1024x2816 .f32) (e : Fin 8) (r : Fin 1024) :
    shapeCast S8x1024x1 (multiReduction (F := Ideal) .maximumf [2] S8x1024 (absf a) 0xFF800000#32 reduces_S8x1024x2816_S8x1024 (.inl rfl) rfl) shapeCasts_S8x1024_S8x1024x1 (ix3 e r 0)
      = (rowMax fun k => a (ix3 e r k) : Ideal .f32) := by
  unfold rowMax
  pointwise

theorem act_at (q : FVec Ideal S1x1024x2816 .fp8e4m3) (s : FVec Ideal S1x1024x1 .f32) (w : Vec Ideal S8x2816x5632 .fp8e4m3)
    (ws : Vec Ideal S8x5632 .f32) (e : Fin 8) (r : Fin 1024) (f : Fin 2816) :
    k0_pay6 (F := Ideal) q s w ws (ix3 e r f)
      = glu (unitOf (fun k => q (ix3 0 r k)) (FloatOps.exp2 (F := Ideal) (φ := .f32) (s (ix3 0 r 0))) (fun k => w (ix3 e k ⟨f.val, by omega⟩)) (ws (ix2 e ⟨f.val, by omega⟩)))
          (unitOf (fun k => q (ix3 0 r k)) (FloatOps.exp2 (F := Ideal) (φ := .f32) (s (ix3 0 r 0))) (fun k => w (ix3 e k ⟨2816 + f.val, by omega⟩)) (ws (ix2 e ⟨2816 + f.val, by omega⟩))) := by
  unfold glu unitOf
  pointwise [k0_pay6]

theorem out_at (a : FVec Ideal S8x1024x2816 .f32) (E : IVec S8x1024x1 32) (w : Vec Ideal S8x2816x2816 .fp8e4m3) (g : Vec Ideal S8x1024x1 .f32)
    (ws : Vec Ideal S8x2816 .f32) (M : IVec S8x1024x1 1) (r : Fin 1024) (d : Fin 2816) :
    k0_pay1 (F := Ideal) a E M 0#32 w g ws (ix3 0 r d)
      = ∑ e : Fin 8, unitOf (fun k => min (Ideal.ofBits FTy.f32 1138753536#32) (max (Ideal.ofBits FTy.f32 3286237184#32) (a (ix3 e r k) * powExp (IntOp.subi 0#32 (Scalar.select (M (ix3 e r 0)) 0#32 (E (ix3 e r 0)))))))
          (powExp (Scalar.select (M (ix3 e r 0)) 0#32 (E (ix3 e r 0))) * g (ix3 e r 0)) (fun k => w (ix3 e k d)) (ws (ix2 e d)) := by
  unfold unitOf powExp
  pointwise [k0_pay1]

/-- The exponent of the activations' rows: the search of their row maxima. -/
theorem expo8_eq (q : FVec Ideal S1x1024x2816 .fp8e4m3) (s : FVec Ideal S1x1024x1 .f32) (w : Vec Ideal S8x2816x5632 .fp8e4m3)
    (ws : Vec Ideal S8x5632 .f32) :
    select (k0_pay9 (F := Ideal) q s w ws) (broadcast S8x1024x1 0#32) (k0_pay8 (F := Ideal) q s w ws)
      = search8 (shapeCast S8x1024x1 (multiReduction .maximumf [2] S8x1024 (absf (k0_pay6 (F := Ideal) q s w ws)) 0xFF800000#32
          reduces_S8x1024x2816_S8x1024 (.inl rfl) rfl) shapeCasts_S8x1024_S8x1024x1) := rfl

theorem expo8_at (q : FVec Ideal S1x1024x2816 .fp8e4m3) (s : FVec Ideal S1x1024x1 .f32) (w : Vec Ideal S8x2816x5632 .fp8e4m3)
    (ws : Vec Ideal S8x5632 .f32) (e : Fin 8) (r : Fin 1024) :
    Scalar.select (k0_pay9 (F := Ideal) q s w ws (ix3 e r 0)) 0#32 (k0_pay8 (F := Ideal) q s w ws (ix3 e r 0))
      = expo powExp (rowMax fun k => k0_pay6 (F := Ideal) q s w ws (ix3 e r k)) := by
  have h := congrFun (expo8_eq q s w ws) (ix3 e r 0)
  rw [search8_at, rowMax8_at] at h
  exact h

/-- One row of hidden activations is the layer's. -/
theorem act_row (x : Vec Ideal S1x1024x2816 .bf16) (w : Vec Ideal S8x2816x5632 .fp8e4m3) (ws : Vec Ideal S8x5632 .f32) (e : Fin 8) (r : Fin 1024) :
    (fun k => k0_pay6 (F := Ideal) (k0_pay4 (F := Ideal) x) (k0_pay5 (F := Ideal) x) w ws (ix3 e r k))
      = act (fun t k => x (ix3 0 t k)) (fun e k f => w (ix3 e k f)) (fun e f => ws (ix2 e f)) e r := by
  funext k
  rw [act_at, scale_at]
  simp only [codes_at]
  rfl

/-- The stored result at an entry, for gates `g`. -/
theorem result_at (x : Vec Ideal S1x1024x2816 .bf16) (w : Vec Ideal S8x2816x5632 .fp8e4m3) (ws : Vec Ideal S8x5632 .f32)
    (wd : Vec Ideal S8x2816x2816 .fp8e4m3) (g : Vec Ideal S8x1024x1 .f32) (sd : Vec Ideal S8x2816 .f32) (r : Fin 1024) (d : Fin 2816) :
    k0_pay1 (F := Ideal) (k0_pay6 (F := Ideal) (k0_pay4 (F := Ideal) x) (k0_pay5 (F := Ideal) x) w ws)
        (k0_pay8 (F := Ideal) (k0_pay4 (F := Ideal) x) (k0_pay5 (F := Ideal) x) w ws)
        (k0_pay9 (F := Ideal) (k0_pay4 (F := Ideal) x) (k0_pay5 (F := Ideal) x) w ws) 0#32 wd g sd (ix3 0 r d)
      = ∑ e : Fin 8, unitOf
          (fun k => code (act (fun t k => x (ix3 0 t k)) (fun e k f => w (ix3 e k f)) (fun e f => ws (ix2 e f)) e r k)
            (rowMax (act (fun t k => x (ix3 0 t k)) (fun e k f => w (ix3 e k f)) (fun e f => ws (ix2 e f)) e r)))
          (scale (rowMax (act (fun t k => x (ix3 0 t k)) (fun e k f => w (ix3 e k f)) (fun e f => ws (ix2 e f)) e r)) * g (ix3 e r 0))
          (fun k => wd (ix3 e k d)) (sd (ix2 e d)) := by
  rw [out_at]
  refine Finset.sum_congr rfl fun e _ => ?_
  rw [expo8_at]
  simp only [← act_row x w ws e r]

end Cert.ReferenceIdeal.Value
-- ==== Proof.Value.ReferenceResult.lean ====
/- The reference's run, as a value: its result array holds the layer of its arguments. -/
module

public import proofs.«01_k».proof.Proof.Gen.ReferenceIdeal.Value
public import proofs.«01_k».proof.Proof.Value.ReferenceGate
public import proofs.«01_k».proof.Proof.Value.ReferencePay

@[expose] public section

set_option maxRecDepth 16384

noncomputable section

namespace Cert.ReferenceIdeal.Value

open Idealize.ShloMosaic Idealize.ShloMosaic.TcCoe Idealize.SL.Sem Cert.ReferenceIdeal Cert.ReferenceIdeal.Gen Cert.Moe

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The one point's blocks: the arrays, whole -/

/-- The reference's kernel has one point. -/
def only : Fin cfg0.N := ⟨0, by rw [show cfg0.N = 1 from N_0]; decide⟩

theorem point_only (t : Fin cfg0.N) : t = only := by
  have h : cfg0.N = 1 := N_0
  exact Fin.ext (show t.val = 0 by omega)

theorem in0 (c : Dev nD) : (iblk m c 0 only : Vec Ideal S1x1024x2816 .bf16) = V m c main_arg0 := by
  funext j
  unfold iblk
  rw [View.read_apply]
  show V m c main_arg0 _ = V m c main_arg0 _
  congr 1
  funext a
  apply Fin.ext
  match a with
  | ⟨0, _⟩ => show 0 * 1 + 1 * (j 0).val = (j 0).val; omega
  | ⟨1, _⟩ => show 0 * 1024 + 1 * (j 1).val = (j 1).val; omega
  | ⟨2, _⟩ => show 0 * 2816 + 1 * (j 2).val = (j 2).val; omega

theorem in1 (c : Dev nD) : (iblk m c 1 only : Vec Ideal S8x1024x1 .f32) = V m c main_v22 := by
  funext j
  unfold iblk
  rw [View.read_apply]
  show V m c main_v22 _ = V m c main_v22 _
  congr 1
  funext a
  apply Fin.ext
  match a with
  | ⟨0, _⟩ => show 0 * 8 + 1 * (j 0).val = (j 0).val; omega
  | ⟨1, _⟩ => show 0 * 1024 + 1 * (j 1).val = (j 1).val; omega
  | ⟨2, _⟩ => show 0 * 1 + 1 * (j 2).val = (j 2).val; omega

theorem in2 (c : Dev nD) : (iblk m c 2 only : Vec Ideal S8x2816x5632 .fp8e4m3) = V m c main_arg2 := by
  funext j
  unfold iblk
  rw [View.read_apply]
  show V m c main_arg2 _ = V m c main_arg2 _
  congr 1
  funext a
  apply Fin.ext
  match a with
  | ⟨0, _⟩ => show 0 * 8 + 1 * (j 0).val = (j 0).val; omega
  | ⟨1, _⟩ => show 0 * 2816 + 1 * (j 1).val = (j 1).val; omega
  | ⟨2, _⟩ => show 0 * 5632 + 1 * (j 2).val = (j 2).val; omega

theorem in3 (c : Dev nD) : (iblk m c 3 only : Vec Ideal S8x5632 .f32) = V m c main_arg3 := by
  funext j
  unfold iblk
  rw [View.read_apply]
  show V m c main_arg3 _ = V m c main_arg3 _
  congr 1
  funext a
  apply Fin.ext
  match a with
  | ⟨0, _⟩ => show 0 * 8 + 1 * (j 0).val = (j 0).val; omega
  | ⟨1, _⟩ => show 0 * 5632 + 1 * (j 1).val = (j 1).val; omega

theorem in4 (c : Dev nD) : (iblk m c 4 only : Vec Ideal S8x2816x2816 .fp8e4m3) = V m c main_arg4 := by
  funext j
  unfold iblk
  rw [View.read_apply]
  show V m c main_arg4 _ = V m c main_arg4 _
  congr 1
  funext a
  apply Fin.ext
  match a with
  | ⟨0, _⟩ => show 0 * 8 + 1 * (j 0).val = (j 0).val; omega
  | ⟨1, _⟩ => show 0 * 2816 + 1 * (j 1).val = (j 1).val; omega
  | ⟨2, _⟩ => show 0 * 2816 + 1 * (j 2).val = (j 2).val; omega

theorem in5 (c : Dev nD) : (iblk m c 5 only : Vec Ideal S8x2816 .f32) = V m c main_arg5 := by
  funext j
  unfold iblk
  rw [View.read_apply]
  show V m c main_arg5 _ = V m c main_arg5 _
  congr 1
  funext a
  apply Fin.ext
  match a with
  | ⟨0, _⟩ => show 0 * 8 + 1 * (j 0).val = (j 0).val; omega
  | ⟨1, _⟩ => show 0 * 2816 + 1 * (j 1).val = (j 1).val; omega

/-! ## The result array -/

/-- The stored value is written back over the whole array. -/
theorem final6 (c : Dev nD) : (dats m 0 c).arrAt 6 cfg0.N
    = (out0_6 (iblk m c 0 only) (iblk m c 1 only) (iblk m c 2 only) (iblk m c 3 only) (iblk m c 4 only) (iblk m c 5 only) : Vec Ideal S1x1024x2816 .bf16) := by
  have hz' : ∀ t : Fin cfg0.N, (fun a => win0_6.index t a * main_v23.ty.shape.size a) = fun _ => 0 := fun t => funext fun a => by
    fin_cases a <;> exact Nat.zero_mul _
  refine (dats m 0 c).arrAt_eq_of_cover 6 _ (fun t _ => ?_) fun i => ⟨only, flush0_6 only, ?_⟩
  · show (cfg0.win 6).cut (grid0.coords t) ((dats m 0 c).after 6 t) = _
    rw [after0_6, point_only t]
    exact (Memref.read_access_unit_zero (Elt Ideal) main_v23 (hz' only) (fun a => by rw [congrFun (hz' only) a]; simp) _).symm
  · have h : ((View.whole main_v23).slice (win0_6.rect only)).set = Finset.univ := by
      rw [View.set_slice_whole]
      exact Finset.eq_univ_iff_forall.mpr fun i => View.mem_set_unit_zero (hz' only) _ i
    exact h ▸ Finset.mem_univ i

/-- The store, as a value of the whole arrays. -/
theorem out6_eq (x : Vec Ideal S1x1024x2816 .bf16) (g : Vec Ideal S8x1024x1 .f32) (w : Vec Ideal S8x2816x5632 .fp8e4m3)
    (ws : Vec Ideal S8x5632 .f32) (wd : Vec Ideal S8x2816x2816 .fp8e4m3) (sd : Vec Ideal S8x2816 .f32) :
    out0_6 x g w ws wd sd
      = k0_pay1 (F := Ideal) (k0_pay6 (F := Ideal) (k0_pay4 (F := Ideal) x) (k0_pay5 (F := Ideal) x) w ws)
        (k0_pay8 (F := Ideal) (k0_pay4 (F := Ideal) x) (k0_pay5 (F := Ideal) x) w ws)
        (k0_pay9 (F := Ideal) (k0_pay4 (F := Ideal) x) (k0_pay5 (F := Ideal) x) w ws) 0#32 wd g sd := by
  unfold out0_6
  rw [View.canon_unit_zero hz3]
  unfold k0_pay10 k0_pay11
  rw [View.ld_unit_zero (S := S1x1024x2816) hz3, View.ld_unit_zero (S := S8x2816x5632) hz3, View.ld_unit_zero (S := S8x5632) hz2,
    View.ld_unit_zero (S := S8x2816x2816) hz3, View.ld_unit_zero (S := S8x1024x1) hz3, View.ld_unit_zero (S := S8x2816) hz2]

/-! ## The arguments, as the layer's functions -/

abbrev argX (c : Dev nD) : Fin 1024 → Fin 2816 → EReal := fun t k => m ((c : Thread nD τ).loc main_arg0) (ix3 0 t k)
abbrev argWR (c : Dev nD) : Fin 2816 → Fin 8 → EReal := fun k e => m ((c : Thread nD τ).loc main_arg1) (ix2 k e)
abbrev argWU (c : Dev nD) : Fin 8 → Fin 2816 → Fin 5632 → EReal := fun e k f => m ((c : Thread nD τ).loc main_arg2) (ix3 e k f)
abbrev argSU (c : Dev nD) : Fin 8 → Fin 5632 → EReal := fun e f => m ((c : Thread nD τ).loc main_arg3) (ix2 e f)
abbrev argWD (c : Dev nD) : Fin 8 → Fin 2816 → Fin 2816 → EReal := fun e k d => m ((c : Thread nD τ).loc main_arg4) (ix3 e k d)
abbrev argSD (c : Dev nD) : Fin 8 → Fin 2816 → EReal := fun e d => m ((c : Thread nD τ).loc main_arg5) (ix2 e d)

/-- The gates that the reference's kernel finds. -/
theorem gate_found (c : Dev nD) (r : Fin 1024) (e : Fin 8) :
    V (F := Ideal) m c main_v22 (ix3 e r 0) = gateR (logit (argX m c) (argWR m c) r) e := by
  rw [V_gate]
  exact gate_at _ _ r e

/-- The reference's result array, after the run, holds the layer of its arguments. -/
theorem result (c : Dev nD) (r : Fin 1024) (d : Fin 2816) :
    ((dats m 0 c).arrAt 6 cfg0.N : Vec Ideal S1x1024x2816 .bf16) (ix3 0 r d)
      = layer (argX m c) (argWR m c) (argWU m c) (argSU m c) (argWD m c) (argSD m c) r d := by
  rw [final6, out6_eq, in0, in1, in2, in3, in4, in5]
  refine (result_at _ _ _ _ _ _ r d).trans ?_
  rw [V_main_arg0, V_main_arg2, V_main_arg3, V_main_arg4, V_main_arg5]
  refine Finset.sum_congr rfl fun e _ => ?_
  exact congrArg (fun g : EReal => unitOf
      (fun k => code (act (argX m c) (argWU m c) (argSU m c) e r k) (rowMax (act (argX m c) (argWU m c) (argSU m c) e r)))
      (scale (rowMax (act (argX m c) (argWU m c) (argSU m c) e r)) * g) (fun k => argWD m c e k d) (argSD m c e d))
    (gate_found m c r e)

end Cert.ReferenceIdeal.Value

end
-- ==== Proof.lean ====
module

public import proofs.«01_k».proof.Defs
public import proofs.«01_k».proof.Proof.Kernel.Run
public import proofs.«01_k».proof.Proof.KernelIdeal.Run
public import proofs.«01_k».proof.Proof.Gen.ReferenceIdeal
public import proofs.«01_k».proof.Proof.Gen.ReferenceIdeal.Frame
public import proofs.«01_k».proof.Proof.Gen.ReferenceIdeal.Value
public import proofs.«01_k».proof.Proof.Value.KernelResult
public import proofs.«01_k».proof.Proof.Value.ReferenceResult
public import Idealize.ShloMosaic.Adequacy
public import Idealize.ShloMosaic.Init

@[expose] public section

noncomputable section

namespace Cert.Proof

open Idealize.ShloMosaic Idealize.SL.Sem

/-- The shape's indices: the only batch, a row, a column. -/
theorem ix_eq (j : Cert.KernelIdeal.S1x1024x2816.Idx) : j = ix3 0 (j 1) (j 2) := by
  funext a
  match a with
  | ⟨0, _⟩ => exact Subsingleton.elim (α := Fin 1) _ _
  | ⟨1, _⟩ => rfl
  | ⟨2, _⟩ => rfl

/-- From equal arguments, both programs run, leave them as they were, and end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Gen.W5 (F := Ideal) m g c (Proc.devRef .tc Cert.KernelIdeal.main_v6), ?_, ?_⟩
  · exact (θ_run _ _ _).mono (fun r h c =>
      ⟨h.1 c _ (Cert.KernelIdeal.Gen.mem_uc Cert.KernelIdeal.main_v6 (by decide)),
       (h.1 c _ (Cert.KernelIdeal.Gen.mem_uc Cert.KernelIdeal.main_arg0 (by decide))).trans (Cert.KernelIdeal.Gen.W5_main_arg0 m g c),
       (h.1 c _ (Cert.KernelIdeal.Gen.mem_uc Cert.KernelIdeal.main_arg1 (by decide))).trans (Cert.KernelIdeal.Gen.W5_main_arg1 m g c),
       (h.1 c _ (Cert.KernelIdeal.Gen.mem_uc Cert.KernelIdeal.main_arg2 (by decide))).trans (Cert.KernelIdeal.Gen.W5_main_arg2 m g c),
       (h.1 c _ (Cert.KernelIdeal.Gen.mem_uc Cert.KernelIdeal.main_arg3 (by decide))).trans (Cert.KernelIdeal.Gen.W5_main_arg3 m g c),
       (h.1 c _ (Cert.KernelIdeal.Gen.mem_uc Cert.KernelIdeal.main_arg4 (by decide))).trans (Cert.KernelIdeal.Gen.W5_main_arg4 m g c),
       (h.1 c _ (Cert.KernelIdeal.Gen.mem_uc Cert.KernelIdeal.main_arg5 (by decide))).trans (Cert.KernelIdeal.Gen.W5_main_arg5 m g c)⟩)
      (Cert.KernelIdeal.Gen.run (F := Ideal) m g)
  · refine (θ_run (Cert.ReferenceIdeal.defs (F := Ideal)) _ _).mono (fun r h c => ?_) (Cert.ReferenceIdeal.Value.run_blocks (F := Ideal) m' g')
    obtain ⟨hv, hrest⟩ := h c
    refine ⟨hv.trans ?_, hrest⟩
    obtain ⟨h0, h1, h2, h3, h4, h5⟩ := hargs c
    have hX : Cert.ReferenceIdeal.Value.argX m' c = Cert.KernelIdeal.Value.argX m c := funext fun t => funext fun k => congrFun h0 (ix3 0 t k)
    have hWR : Cert.ReferenceIdeal.Value.argWR m' c = Cert.KernelIdeal.Value.argWR m c := funext fun k => funext fun e => congrFun h1 (ix2 k e)
    have hWU : Cert.ReferenceIdeal.Value.argWU m' c = Cert.KernelIdeal.Value.argWU m c :=
      funext fun e => funext fun k => funext fun f => congrFun h2 (ix3 e k f)
    have hSU : Cert.ReferenceIdeal.Value.argSU m' c = Cert.KernelIdeal.Value.argSU m c := funext fun e => funext fun f => congrFun h3 (ix2 e f)
    have hWD : Cert.ReferenceIdeal.Value.argWD m' c = Cert.KernelIdeal.Value.argWD m c :=
      funext fun e => funext fun k => funext fun d => congrFun h4 (ix3 e k d)
    have hSD : Cert.ReferenceIdeal.Value.argSD m' c = Cert.KernelIdeal.Value.argSD m c := funext fun e => funext fun d => congrFun h5 (ix2 e d)
    funext j
    rw [ix_eq j]
    refine (Cert.ReferenceIdeal.Value.result m' c (j 1) (j 2)).trans ?_
    rw [hX, hWR, hWU, hSU, hWD, hSD]
    exact (Cert.KernelIdeal.Value.result m g c (j 1) (j 2)).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
